-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_potentials_below_inf [hPre_potentials_below_inf : Cert.Pre_potentials_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_potentials_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_potentials_below_inf [hPre_potentials_below_inf : Cert.Pre_potentials_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_potentials_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_potentials_below_inf [hKernelIdeal : Cert.KernelIdeal.Facts] [hPre_potentials_below_inf : Cert.Pre_potentials_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_potentials_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_potentials_below_inf [hReferenceIdeal : Cert.ReferenceIdeal.Facts] [hPre_potentials_below_inf : Cert.Pre_potentials_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_potentials_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_potentials_below_inf [hKernelIdeal : Cert.KernelIdeal.Facts] [hReferenceIdeal : Cert.ReferenceIdeal.Facts] [hPre_potentials_below_inf : Cert.Pre_potentials_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_potentials_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_potentials_below_inf : Cert.Pre_potentials_below_inf.Facts),
    quiescent_Kernel (hKernel := hKernel)
    ∧ quiescent_KernelIdeal (hKernelIdeal := hKernelIdeal)
    ∧ quiescent_KernelIdeal_pre_potentials_below_inf (hKernelIdeal := hKernelIdeal) (hPre_potentials_below_inf := hPre_potentials_below_inf)
    ∧ quiescent_ReferenceIdeal (hReferenceIdeal := hReferenceIdeal)
    ∧ quiescent_ReferenceIdeal_pre_potentials_below_inf (hReferenceIdeal := hReferenceIdeal) (hPre_potentials_below_inf := hPre_potentials_below_inf)
    ∧ preserves_Kernel_KernelIdeal
    ∧ algebraic_KernelIdeal_ReferenceIdeal_pre_potentials_below_inf (hKernelIdeal := hKernelIdeal) (hReferenceIdeal := hReferenceIdeal) (hPre_potentials_below_inf := hPre_potentials_below_inf)
-- ==== Pre_potentials_below_inf.lean ====
abbrev S16x2048x32 : Shape := ⟨3, ![16, 2048, 32]⟩
abbrev S16x2048 : Shape := ⟨2, ![16, 2048]⟩
abbrev S16 : Shape := ⟨1, ![16]⟩
abbrev S32x32 : Shape := ⟨2, ![32, 32]⟩
abbrev S32 : Shape := ⟨1, ![32]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S16 : S_.BroadcastsInDim S16 (![] : Fin 0 → Fin S16.rank)
  reducesTo_S16_S_d0 : S16.ReducesTo [0] S_
  bcast_S_S16x2048x32 : S_.BroadcastsInDim S16x2048x32 (![] : Fin 0 → Fin S16x2048x32.rank)
  reducesTo_S16x2048x32_S_d0_1_2 : S16x2048x32.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg3 : FVec F S32x32 .f32) (main_arg4 : FVec F S32 .f32) (main_arg5 : FVec F S32 .f32) (main_v2 : IVec S_ 1) (main_v5 : IVec S_ 1) (main_v8 : IVec S_ 1) (main_v11 : IVec S_ 1) (main_v13 : IVec S16x2048x32 1) (main_c_7 : IVec S_ 1) : IVec S_ 1 :=
  let main_v14 : IVec S_ 1 := (fun x v => Host.reduce IntOp.andi x v reducesTo_S16x2048x32_S_d0_1_2 h_S_) main_v13 main_c_7
  let main_cst_8 : FVec F S_ .f32 := constant S_ .f32 0x7F800000#32
  let main_v15 : FVec F S32x32 .f32 := broadcastInDim S32x32 ![] bcast_S_S32x32 main_cst_8
  let main_v16 : IVec S32x32 1 := cmpf .olt main_arg3 main_v15
  let main_c_9 : IVec S_ 1 := constantI S_ 1 1#1
  let main_v17 : IVec S_ 1 := (fun x v => Host.reduce IntOp.andi x v reducesTo_S32x32_S_d0_1 h_S_) main_v16 main_c_9
  let main_cst_10 : FVec F S_ .f32 := constant S_ .f32 0x7F800000#32
  let main_v18 : FVec F S32 .f32 := broadcastInDim S32 ![] bcast_S_S32 main_cst_10
  let main_v19 : IVec S32 1 := cmpf .olt main_arg4 main_v18
  let main_c_11 : IVec S_ 1 := constantI S_ 1 1#1
  let main_v20 : IVec S_ 1 := (fun x v => Host.reduce IntOp.andi x v reducesTo_S32_S_d0 h_S_) main_v19 main_c_11
  let main_cst_12 : FVec F S_ .f32 := constant S_ .f32 0x7F800000#32
  let main_v21 : FVec F S32 .f32 := broadcastInDim S32 ![] bcast_S_S32 main_cst_12
  let main_v22 : IVec S32 1 := cmpf .olt main_arg5 main_v21
  let main_c_13 : IVec S_ 1 := constantI S_ 1 1#1
  let main_v23 : IVec S_ 1 := (fun x v => Host.reduce IntOp.andi x v reducesTo_S32_S_d0 h_S_) main_v22 main_c_13
  let main_v24 : IVec S_ 1 := andi main_v2 main_v5
  let main_v25 : IVec S_ 1 := andi main_v24 main_v8
  let main_v26 : IVec S_ 1 := andi main_v25 main_v11
  let main_v27 : IVec S_ 1 := andi main_v26 main_v14
  let main_v28 : IVec S_ 1 := andi main_v27 main_v17
  let main_v29 : IVec S_ 1 := andi main_v28 main_v20
  let main_v30 : IVec S_ 1 := andi main_v29 main_v23
  main_v30

def fn {F : FTy → Type} [FloatOps F] (main_arg0 : FVec F S16x2048x32 .f32) (main_arg1 : IVec S16x2048 32) (main_arg2 : IVec S16 32) (main_arg3 : FVec F S32x32 .f32) (main_arg4 : FVec F S32 .f32) (main_arg5 : FVec F S32 .f32) : IVec S_ 1 :=
  let main_c : IVec S_ 32 := constantI S_ 32 0#32
  let main_v0 : IVec S16x2048 32 := broadcastInDim S16x2048 ![] bcast_S_S16x2048 main_c
  let main_v1 : IVec S16x2048 1 := cmpi .sge main_arg1 main_v0
  let main_c_0 : IVec S_ 1 := constantI S_ 1 1#1
  let main_v2 : IVec S_ 1 := (fun x v => Host.reduce IntOp.andi x v reducesTo_S16x2048_S_d0_1 h_S_) main_v1 main_c_0
  let main_c_1 : IVec S_ 32 := constantI S_ 32 32#32
  let main_v3 : IVec S16x2048 32 := broadcastInDim S16x2048 ![] bcast_S_S16x2048 main_c_1
  let main_v4 : IVec S16x2048 1 := cmpi .slt main_arg1 main_v3
  let main_c_2 : IVec S_ 1 := constantI S_ 1 1#1
  let main_v5 : IVec S_ 1 := (fun x v => Host.reduce IntOp.andi x v reducesTo_S16x2048_S_d0_1 h_S_) main_v4 main_c_2
  let main_c_3 : IVec S_ 32 := constantI S_ 32 1#32
  let main_v6 : IVec S16 32 := broadcastInDim S16 ![] bcast_S_S16 main_c_3
  let main_v7 : IVec S16 1 := cmpi .sge main_arg2 main_v6
  let main_c_4 : IVec S_ 1 := constantI S_ 1 1#1
  let main_v8 : IVec S_ 1 := (fun x v => Host.reduce IntOp.andi x v reducesTo_S16_S_d0 h_S_) main_v7 main_c_4
  let main_c_5 : IVec S_ 32 := constantI S_ 32 2048#32
  let main_v9 : IVec S16 32 := broadcastInDim S16 ![] bcast_S_S16 main_c_5
  let main_v10 : IVec S16 1 := cmpi .sle main_arg2 main_v9
  let main_c_6 : IVec S_ 1 := constantI S_ 1 1#1
  let main_v11 : IVec S_ 1 := (fun x v => Host.reduce IntOp.andi x v reducesTo_S16_S_d0 h_S_) main_v10 main_c_6
  let main_cst : FVec F S_ .f32 := constant S_ .f32 0x7F800000#32
  let main_v12 : FVec F S16x2048x32 .f32 := broadcastInDim S16x2048x32 ![] bcast_S_S16x2048x32 main_cst
  let main_v13 : IVec S16x2048x32 1 := cmpf .olt main_arg0 main_v12
  let main_c_7 : IVec S_ 1 := constantI S_ 1 1#1
  fn_part1 (F := F) main_arg3 main_arg4 main_arg5 main_v2 main_v5 main_v8 main_v11 main_v13 main_c_7
-- ==== Kernel.lean ====
abbrev S16x2048x32 : Shape := ⟨3, ![16, 2048, 32]⟩
abbrev S16x2048 : Shape := ⟨2, ![16, 2048]⟩
abbrev S16 : Shape := ⟨1, ![16]⟩
abbrev S32x32 : Shape := ⟨2, ![32, 32]⟩
abbrev S32 : Shape := ⟨1, ![32]⟩
abbrev S16x2047x32 : Shape := ⟨3, ![16, 2047, 32]⟩
abbrev S16x1x32 : Shape := ⟨3, ![16, 1, 32]⟩
abbrev S16x64x32x32 : Shape := ⟨4, ![16, 64, 32, 32]⟩
abbrev S32x64x16x32 : Shape := ⟨4, ![32, 64, 16, 32]⟩
abbrev S32x1024x32 : Shape := ⟨3, ![32, 1024, 32]⟩
abbrev S1x32x1x1024x1x32 : Shape := ⟨6, ![1, 32, 1, 1024, 1, 32]⟩
abbrev S1x32x1x1024x4x32 : Shape := ⟨6, ![1, 32, 1, 1024, 4, 32]⟩
abbrev S32x1024x128 : Shape := ⟨3, ![32, 1024, 128]⟩
abbrev S16x64x32 : Shape := ⟨3, ![16, 64, 32]⟩
abbrev S32x64x16 : Shape := ⟨3, ![32, 64, 16]⟩
abbrev S32x1024x1 : Shape := ⟨3, ![32, 1024, 1]⟩
abbrev S_ : Shape := ⟨0, ![]⟩
abbrev S32x1040x32 : Shape := ⟨3, ![32, 1040, 32]⟩
abbrev S1024 : Shape := ⟨1, ![1024]⟩
abbrev S1024x1 : Shape := ⟨2, ![1024, 1]⟩
abbrev S1024x128 : Shape := ⟨2, ![1024, 128]⟩
abbrev S1x16 : Shape := ⟨2, ![1, 16]⟩
abbrev S64x16 : Shape := ⟨2, ![64, 16]⟩
abbrev S16x32 : Shape := ⟨2, ![16, 32]⟩
abbrev S16x1 : Shape := ⟨2, ![16, 1]⟩
abbrev S1x32 : Shape := ⟨2, ![1, 32]⟩
abbrev S8192x128 : Shape := ⟨2, ![8192, 128]⟩
abbrev S128x32 : Shape := ⟨2, ![128, 32]⟩
abbrev S128x128 : Shape := ⟨2, ![128, 128]⟩
abbrev S512x8x128 : Shape := ⟨3, ![512, 8, 128]⟩
abbrev S512x32 : Shape := ⟨2, ![512, 32]⟩
abbrev S512x128 : Shape := ⟨2, ![512, 128]⟩
abbrev S1x512x32 : Shape := ⟨3, ![1, 512, 32]⟩
abbrev S1x512x128 : Shape := ⟨3, ![1, 512, 128]⟩
abbrev S4096x128 : Shape := ⟨2, ![4096, 128]⟩
abbrev S512x1x128 : Shape := ⟨3, ![512, 1, 128]⟩
abbrev S512 : Shape := ⟨1, ![512]⟩
abbrev S32x16 : Shape := ⟨2, ![32, 16]⟩
abbrev S16x128 : Shape := ⟨2, ![16, 128]⟩
abbrev S32x128 : Shape := ⟨2, ![32, 128]⟩
abbrev S16x8x32 : Shape := ⟨3, ![16, 8, 32]⟩
abbrev S16x8x128 : Shape := ⟨3, ![16, 8, 128]⟩

abbrev nBuf : Space → Nat
  | .hbm => 60
  | .vmem => 11
  | .smem => 0
  | _ => 0

abbrev bufTy : (tb : Table) → Fin (tcTables nBuf tb) → BufTy
  | .hbm, ⟨0, _⟩ => ⟨S16x2048x32, .f32⟩
  | .hbm, ⟨1, _⟩ => ⟨S16x2048, .i32⟩
  | .hbm, ⟨2, _⟩ => ⟨S16, .i32⟩
  | .hbm, ⟨3, _⟩ => ⟨S32x32, .f32⟩
  | .hbm, ⟨4, _⟩ => ⟨S32, .f32⟩
  | .hbm, ⟨5, _⟩ => ⟨S32, .f32⟩
  | .hbm, ⟨6, _⟩ => ⟨S16x2047x32, .f32⟩
  | .hbm, ⟨7, _⟩ => ⟨S16x1x32, .f32⟩
  | .hbm, ⟨8, _⟩ => ⟨S16x2048x32, .f32⟩
  | .hbm, ⟨9, _⟩ => ⟨S16x64x32x32, .f32⟩
  | .hbm, ⟨10, _⟩ => ⟨S16x64x32x32, .bf16⟩
  | .hbm, ⟨11, _⟩ => ⟨S32x64x16x32, .bf16⟩
  | .hbm, ⟨12, _⟩ => ⟨S32x1024x32, .bf16⟩
  | .hbm, ⟨13, _⟩ => ⟨S1x32x1x1024x1x32, .bf16⟩
  | .hbm, ⟨14, _⟩ => ⟨S1x32x1x1024x4x32, .bf16⟩
  | .hbm, ⟨15, _⟩ => ⟨S32x1024x128, .bf16⟩
  | .hbm, ⟨16, _⟩ => ⟨S16x64x32, .i32⟩
  | .hbm, ⟨17, _⟩ => ⟨S32x64x16, .i32⟩
  | .hbm, ⟨18, _⟩ => ⟨S32x1024x1, .i32⟩
  | .hbm, ⟨19, _⟩ => ⟨S32x1024x1, .bf16⟩
  | .hbm, ⟨20, _⟩ => ⟨S32x1024x32, .bf16⟩
  | .hbm, ⟨21, _⟩ => ⟨S_, .i32⟩
  | .hbm, ⟨22, _⟩ => ⟨S_, .bf16⟩
  | .hbm, ⟨23, _⟩ => ⟨S32x1040x32, .bf16⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024, .i1⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S1024x128, .i32⟩
  | .hbm, ⟨48, _⟩ => ⟨S1x16, .i32⟩
  | .hbm, ⟨49, _⟩ => ⟨S64x16, .i32⟩
  | .hbm, ⟨50, _⟩ => ⟨S1024, .i32⟩
  | .hbm, ⟨51, _⟩ => ⟨S1024x1, .i32⟩
  | .hbm, ⟨52, _⟩ => ⟨S1024x128, .i32⟩
  | .hbm, ⟨53, _⟩ => ⟨S16x1x32, .f32⟩
  | .hbm, ⟨54, _⟩ => ⟨S16x32, .f32⟩
  | .hbm, ⟨55, _⟩ => ⟨S16x1, .i32⟩
  | .hbm, ⟨56, _⟩ => ⟨S1x32, .f32⟩
  | .hbm, ⟨57, _⟩ => ⟨S1x32, .f32⟩
  | .hbm, ⟨58, _⟩ => ⟨S16x1, .f32⟩
  | .hbm, ⟨59, _⟩ => ⟨S16, .f32⟩
  | .local _ .vmem, ⟨0, _⟩ => ⟨S32x1024x128, .bf16⟩
  | .local _ .vmem, ⟨1, _⟩ => ⟨S32x1040x32, .bf16⟩
  | .local _ .vmem, ⟨2, _⟩ => ⟨S16x32, .f32⟩
  | .local _ .vmem, ⟨3, _⟩ => ⟨S16x1, .i32⟩
  | .local _ .vmem, ⟨4, _⟩ => ⟨S1024x128, .i32⟩
  | .local _ .vmem, ⟨5, _⟩ => ⟨S1024x128, .i32⟩
  | .local _ .vmem, ⟨6, _⟩ => ⟨S32x32, .f32⟩
  | .local _ .vmem, ⟨7, _⟩ => ⟨S1x32, .f32⟩
  | .local _ .vmem, ⟨8, _⟩ => ⟨S1x32, .f32⟩
  | .local _ .vmem, ⟨9, _⟩ => ⟨S16x1, .f32⟩
  | .local _ .vmem, ⟨10, _⟩ => ⟨S8192x128, .bf16⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v17 : Ref sig .tc := ⟨.hbm, 42, rfl⟩
abbrev main_c_1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32_38 : BitVec 32 := 0#32
  let c2_i32 : BitVec 32 := 2#32
  let v132 : BitVec 32 := Scalar.addi c0_i32_38 c2_i32
  let c1_i32_39 : BitVec 32 := 1#32
  ⟨c0_i32_38, v132, c1_i32_39⟩
def k0_off1 (k0_t1 : Fin k0_t1_loop.trips) : Fin 2 → Nat :=
  let c0_i32_38 : BitVec 32 := 0#32
  let c1_i32_39 : BitVec 32 := 1#32
  let arg11 : BitVec 32 := Scf.iv c0_i32_38 c1_i32_39 k0_t1
  let c512_i32 : BitVec 32 := 512#32
  let v273 : BitVec 32 := Scalar.muli arg11 c512_i32
  let v274 : Index := Scalar.indexCast v273
  let c0_83 : Index := 0#32
  ![v274.toNat, 0]
@[reducible] def k0_t2_loop : Scf.Loop 32 :=
  let c0_i32_86 : BitVec 32 := 0#32
  let c31_i32 : BitVec 32 := 31#32
  let v281 : BitVec 32 := Scalar.addi c0_i32_86 c31_i32
  let c1_i32_87 : BitVec 32 := 1#32
  ⟨c0_i32_86, v281, c1_i32_87⟩
def k0_off2 (k0_t1 : Fin k0_t1_loop.trips) (k0_t2 : Fin k0_t2_loop.trips) : Fin 3 → Nat :=
  let c0_i32_86 : BitVec 32 := 0#32
  let c1_i32_87 : BitVec 32 := 1#32
  let arg15 : BitVec 32 := Scf.iv c0_i32_86 c1_i32_87 k0_t2
  let c1_i32_108 : BitVec 32 := 1#32
  let v368 : BitVec 32 := Scalar.addi arg15 c1_i32_108
  let v369 : Index := Scalar.indexCast v368
  let c0_i32_38 : BitVec 32 := 0#32
  let c1_i32_39 : BitVec 32 := 1#32
  let arg11 : BitVec 32 := Scf.iv c0_i32_38 c1_i32_39 k0_t1
  let c512_i32 : BitVec 32 := 512#32
  let v273 : BitVec 32 := Scalar.muli arg11 c512_i32
  let v370 : Index := Scalar.indexCast v273
  let c0_109 : Index := 0#32
  ![v369.toNat, v370.toNat, 0]
def k0_off3 (k0_t1 : Fin k0_t1_loop.trips) (k0_t2 : Fin k0_t2_loop.trips) : Fin 3 → Nat :=
  let c0_i32_86 : BitVec 32 := 0#32
  let c1_i32_87 : BitVec 32 := 1#32
  let arg15 : BitVec 32 := Scf.iv c0_i32_86 c1_i32_87 k0_t2
  let v373 : Index := Scalar.indexCast arg15
  let c0_i32_38 : BitVec 32 := 0#32
  let c1_i32_39 : BitVec 32 := 1#32
  let arg11 : BitVec 32 := Scf.iv c0_i32_38 c1_i32_39 k0_t1
  let c512_i32 : BitVec 32 := 512#32
  let v273 : BitVec 32 := Scalar.muli arg11 c512_i32
  let v374 : Index := Scalar.indexCast v273
  let c0_110 : Index := 0#32
  ![v373.toNat, v374.toNat, 0]
def k0_off4 (k0_t1 : Fin k0_t1_loop.trips) (k0_t2 : Fin k0_t2_loop.trips) : Fin 3 → Nat :=
  let c0_i32_86 : BitVec 32 := 0#32
  let c1_i32_87 : BitVec 32 := 1#32
  let arg15 : BitVec 32 := Scf.iv c0_i32_86 c1_i32_87 k0_t2
  let v377 : Index := Scalar.indexCast arg15
  let c0_i32_38 : BitVec 32 := 0#32
  let c1_i32_39 : BitVec 32 := 1#32
  let arg11 : BitVec 32 := Scf.iv c0_i32_38 c1_i32_39 k0_t1
  let c512_i32 : BitVec 32 := 512#32
  let v273 : BitVec 32 := Scalar.muli arg11 c512_i32
  let v378 : Index := Scalar.indexCast v273
  let c0_111 : Index := 0#32
  ![v377.toNat, v378.toNat, 0]
def k0_off5 (k0_t1 : Fin k0_t1_loop.trips) : Fin 3 → Nat :=
  let c0_89 : Index := 0#32
  let c0_i32_38 : BitVec 32 := 0#32
  let c1_i32_39 : BitVec 32 := 1#32
  let arg11 : BitVec 32 := Scf.iv c0_i32_38 c1_i32_39 k0_t1
  let c512_i32 : BitVec 32 := 512#32
  let v273 : BitVec 32 := Scalar.muli arg11 c512_i32
  let c16_i32 : BitVec 32 := 16#32
  let v283 : BitVec 32 := Scalar.addi v273 c16_i32
  let v284 : Index := Scalar.indexCast v283
  let c0_90 : Index := 0#32
  ![0, v284.toNat, 0]
def k0_off6 (k0_t1 : Fin k0_t1_loop.trips) : Fin 3 → Nat :=
  let c31 : Index := 31#32
  let c0_i32_38 : BitVec 32 := 0#32
  let c1_i32_39 : BitVec 32 := 1#32
  let arg11 : BitVec 32 := Scf.iv c0_i32_38 c1_i32_39 k0_t1
  let c512_i32 : BitVec 32 := 512#32
  let v273 : BitVec 32 := Scalar.muli arg11 c512_i32
  let v287 : Index := Scalar.indexCast v273
  let c0_91 : Index := 0#32
  ![31, v287.toNat, 0]
def k0_off7 (k0_t1 : Fin k0_t1_loop.trips) : Fin 3 → Nat :=
  let c31_92 : Index := 31#32
  let c0_i32_38 : BitVec 32 := 0#32
  let c1_i32_39 : BitVec 32 := 1#32
  let arg11 : BitVec 32 := Scf.iv c0_i32_38 c1_i32_39 k0_t1
  let c512_i32 : BitVec 32 := 512#32
  let v273 : BitVec 32 := Scalar.muli arg11 c512_i32
  let v290 : Index := Scalar.indexCast v273
  let c0_93 : Index := 0#32
  ![31, v290.toNat, 0]
def k0_off8 (k0_t1 : Fin k0_t1_loop.trips) : Fin 2 → Nat :=
  let c0_i32_38 : BitVec 32 := 0#32
  let c1_i32_39 : BitVec 32 := 1#32
  let arg11 : BitVec 32 := Scf.iv c0_i32_38 c1_i32_39 k0_t1
  let c512_i32 : BitVec 32 := 512#32
  let v273 : BitVec 32 := Scalar.muli arg11 c512_i32
  let c8_i32_100 : BitVec 32 := 8#32
  let v346 : BitVec 32 := Scalar.muli v273 c8_i32_100
  let v347 : Index := Scalar.indexCast v346
  let c0_101 : Index := 0#32
  ![v347.toNat, 0]
@[reducible] def k0_t3_loop : Scf.Loop 32 :=
  let c0_i32_76 : BitVec 32 := 0#32
  let c64_i32 : BitVec 32 := 64#32
  let v254 : BitVec 32 := Scalar.addi c0_i32_76 c64_i32
  let c1_i32_77 : BitVec 32 := 1#32
  ⟨c0_i32_76, v254, c1_i32_77⟩
def k0_off9 (k0_t3 : Fin k0_t3_loop.trips) : Fin 2 → Nat :=
  let c0_i32_76 : BitVec 32 := 0#32
  let c1_i32_77 : BitVec 32 := 1#32
  let arg11 : BitVec 32 := Scf.iv c0_i32_76 c1_i32_77 k0_t3
  let c128_i32 : BitVec 32 := 128#32
  let v273 : BitVec 32 := Scalar.muli arg11 c128_i32
  let v274 : Index := Scalar.indexCast v273
  let c0_83 : Index := 0#32
  ![v274.toNat, 0]
abbrev stage0_0 : Fin 1 → Memref sig .tc .vmem S32x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1040x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S16x2048x32 : Shape := ⟨3, ![16, 2048, 32]⟩
abbrev S16x2048 : Shape := ⟨2, ![16, 2048]⟩
abbrev S16 : Shape := ⟨1, ![16]⟩
abbrev S32x32 : Shape := ⟨2, ![32, 32]⟩
abbrev S32 : Shape := ⟨1, ![32]⟩
abbrev S16x2048x1 : Shape := ⟨3, ![16, 2048, 1]⟩
abbrev S_ : Shape := ⟨0, ![]⟩
abbrev S16x2048x1x1 : Shape := ⟨4, ![16, 2048, 1, 1]⟩
abbrev S1 : Shape := ⟨1, ![1]⟩
abbrev S1x1x1x1 : Shape := ⟨4, ![1, 1, 1, 1]⟩
abbrev S2048 : Shape := ⟨1, ![2048]⟩
abbrev S1x2048 : Shape := ⟨2, ![1, 2048]⟩
abbrev S16x1 : Shape := ⟨2, ![16, 1]⟩
abbrev S16x2047 : Shape := ⟨2, ![16, 2047]⟩
abbrev S16x2047x1 : Shape := ⟨3, ![16, 2047, 1]⟩
abbrev S16x2047x2 : Shape := ⟨3, ![16, 2047, 2]⟩
abbrev S2047 : Shape := ⟨1, ![2047]⟩
abbrev S1x2047 : Shape := ⟨2, ![1, 2047]⟩
abbrev S16x2 : Shape := ⟨2, ![16, 2]⟩
abbrev S2048x16x32 : Shape := ⟨3, ![2048, 16, 32]⟩
abbrev S1x32 : Shape := ⟨2, ![1, 32]⟩
abbrev S1x16x32 : Shape := ⟨3, ![1, 16, 32]⟩
abbrev S16x32 : Shape := ⟨2, ![16, 32]⟩
abbrev S2047x1 : Shape := ⟨2, ![2047, 1]⟩
abbrev S1x16 : Shape := ⟨2, ![1, 16]⟩
abbrev S2047x16 : Shape := ⟨2, ![2047, 16]⟩
abbrev S2047x16x32 : Shape := ⟨3, ![2047, 16, 32]⟩
abbrev S16x32x1 : Shape := ⟨3, ![16, 32, 1]⟩
abbrev S1x32x32 : Shape := ⟨3, ![1, 32, 32]⟩
abbrev S16x32x32 : Shape := ⟨3, ![16, 32, 32]⟩
abbrev S16x1x32 : Shape := ⟨3, ![16, 1, 32]⟩

abbrev nBuf : Space → Nat
  | .hbm => 200
  | .vmem => 0
  | .smem => 0
  | _ => 0

abbrev hbmTy0_0 (i : Nat) : BufTy := match i % 128 with
  | 0 => ⟨S16x2048x32, .f32⟩
  | 1 => ⟨S16x2048, .i32⟩
  | 2 => ⟨S16, .i32⟩
  | 3 => ⟨S32x32, .f32⟩
  | 4 => ⟨S32, .f32⟩
  | 5 => ⟨S32, .f32⟩
  | 6 => ⟨S16x2048x1, .i32⟩
  | 7 => ⟨S_, .i32⟩
  | 8 => ⟨S16x2048x1, .i32⟩
  | 9 => ⟨S16x2048x1, .i1⟩
  | 10 => ⟨S_, .i32⟩
  | 11 => ⟨S16x2048x1, .i32⟩
  | 12 => ⟨S16x2048x1, .i32⟩
  | 13 => ⟨S16x2048x1, .i32⟩
  | 14 => ⟨S16x2048x1x1, .i32⟩
  | 15 => ⟨S1, .i32⟩
  | 16 => ⟨S_, .i32⟩
  | 17 => ⟨S16x2048x1x1, .i32⟩
  | 18 => ⟨S16x2048x1x1, .i1⟩
  | 19 => ⟨S1x1x1x1, .i32⟩
  | 20 => ⟨S16x2048x1x1, .i32⟩
  | 21 => ⟨S16x2048x1x1, .i1⟩
  | 22 => ⟨S16x2048x1x1, .i1⟩
  | 23 => ⟨S_, .i1⟩
  | 24 => ⟨S16x2048x1, .i1⟩
  | 25 => ⟨S16x2048x1, .f32⟩
  | 26 => ⟨S_, .f32⟩
  | 27 => ⟨S16x2048x1, .f32⟩
  | 28 => ⟨S16x2048x1, .f32⟩
  | 29 => ⟨S16x2048, .f32⟩
  | 30 => ⟨S2048, .i32⟩
  | 31 => ⟨S1x2048, .i32⟩
  | 32 => ⟨S16x1, .i32⟩
  | 33 => ⟨S16x2048, .i32⟩
  | 34 => ⟨S16x2048, .i32⟩
  | 35 => ⟨S16x2048, .i1⟩
  | 36 => ⟨S16x2048, .f32⟩
  | 37 => ⟨S16x2048, .f32⟩
  | 38 => ⟨S_, .f32⟩
  | 39 => ⟨S16, .f32⟩
  | 40 => ⟨S16x2047, .i32⟩
  | 41 => ⟨S16x2047, .i32⟩
  | 42 => ⟨S_, .i32⟩
  | 43 => ⟨S16x2047, .i32⟩
  | 44 => ⟨S16x2047, .i1⟩
  | 45 => ⟨S_, .i32⟩
  | 46 => ⟨S16x2047, .i32⟩
  | 47 => ⟨S16x2047, .i32⟩
  | 48 => ⟨S16x2047, .i32⟩
  | 49 => ⟨S_, .i32⟩
  | 50 => ⟨S16x2047, .i32⟩
  | 51 => ⟨S16x2047, .i1⟩
  | 52 => ⟨S_, .i32⟩
  | 53 => ⟨S16x2047, .i32⟩
  | 54 => ⟨S16x2047, .i32⟩
  | 55 => ⟨S16x2047, .i32⟩
  | 56 => ⟨S16x2047x1, .i32⟩
  | 57 => ⟨S16x2047x1, .i32⟩
  | 58 => ⟨S16x2047x2, .i32⟩
  | 59 => ⟨S16x2047, .f32⟩
  | 60 => ⟨S2047, .i32⟩
  | 61 => ⟨S_, .i32⟩
  | 62 => ⟨S2047, .i32⟩
  | 63 => ⟨S2047, .i32⟩
  | 64 => ⟨S1x2047, .i32⟩
  | 65 => ⟨S16x1, .i32⟩
  | 66 => ⟨S16x2047, .i32⟩
  | 67 => ⟨S16x2047, .i32⟩
  | 68 => ⟨S16x2047, .i1⟩
  | 69 => ⟨S16x2047, .f32⟩
  | 70 => ⟨S16x2047, .f32⟩
  | 71 => ⟨S_, .f32⟩
  | 72 => ⟨S16, .f32⟩
  | 73 => ⟨S16x1, .i32⟩
  | 74 => ⟨S16, .i32⟩
  | 75 => ⟨S16, .i32⟩
  | 76 => ⟨S_, .i32⟩
  | 77 => ⟨S16, .i32⟩
  | 78 => ⟨S16, .i32⟩
  | 79 => ⟨S_, .i32⟩
  | 80 => ⟨S16, .i32⟩
  | 81 => ⟨S16, .i1⟩
  | 82 => ⟨S_, .i32⟩
  | 83 => ⟨S16, .i32⟩
  | 84 => ⟨S16, .i32⟩
  | 85 => ⟨S16, .i32⟩
  | 86 => ⟨S_, .i32⟩
  | 87 => ⟨S16, .i32⟩
  | 88 => ⟨S16, .i1⟩
  | 89 => ⟨S_, .i32⟩
  | 90 => ⟨S16, .i32⟩
  | 91 => ⟨S16, .i32⟩
  | 92 => ⟨S16, .i32⟩
  | 93 => ⟨S16x1, .i32⟩
  | 94 => ⟨S16x1, .i32⟩
  | 95 => ⟨S16x2, .i32⟩
  | 96 => ⟨S16, .i32⟩
  | 97 => ⟨S_, .i32⟩
  | 98 => ⟨S16, .i32⟩
  | 99 => ⟨S16, .i1⟩
  | 100 => ⟨S_, .i32⟩
  | 101 => ⟨S16, .i32⟩
  | 102 => ⟨S16, .i32⟩
  | 103 => ⟨S16, .i32⟩
  | 104 => ⟨S16x1, .i32⟩
  | 105 => ⟨S16, .f32⟩
  | 106 => ⟨S16, .f32⟩
  | 107 => ⟨S16, .f32⟩
  | 108 => ⟨S_, .i32⟩
  | 109 => ⟨S16, .i32⟩
  | 110 => ⟨S16, .i1⟩
  | 111 => ⟨S_, .i32⟩
  | 112 => ⟨S16, .i32⟩
  | 113 => ⟨S16, .i32⟩
  | 114 => ⟨S16, .i32⟩
  | 115 => ⟨S16x1, .i32⟩
  | 116 => ⟨S16, .f32⟩
  | 117 => ⟨S16, .f32⟩
  | 118 => ⟨S2048x16x32, .f32⟩
  | 119 => ⟨S1x32, .f32⟩
  | 120 => ⟨S1x16x32, .f32⟩
  | 121 => ⟨S16x32, .f32⟩
  | 122 => ⟨S16x32, .f32⟩
  | 123 => ⟨S16x32, .f32⟩
  | 124 => ⟨S2047, .i32⟩
  | 125 => ⟨S_, .i32⟩
  | 126 => ⟨S2047, .i32⟩
  | 127 => ⟨S2047, .i32⟩
  | _ => ⟨S16x2048x32, .f32⟩

abbrev hbmTy0_1 (i : Nat) : BufTy := match i % 128 with
  | 0 => ⟨S2047x1, .i32⟩
  | 1 => ⟨S1x16, .i32⟩
  | 2 => ⟨S2047x16, .i32⟩
  | 3 => ⟨S2047x16, .i32⟩
  | 4 => ⟨S2047x16, .i1⟩
  | 5 => ⟨S2047x16x32, .f32⟩
  | 6 => ⟨S_, .i32⟩
  | 7 => ⟨S2047x16x32, .f32⟩
  | 8 => ⟨S2047x16, .i1⟩
  | 9 => ⟨S32x32, .f32⟩
  | 10 => ⟨S_, .i32⟩
  | 11 => ⟨S16x32, .f32⟩
  | 12 => ⟨S_, .i32⟩
  | 13 => ⟨S_, .i1⟩
  | 14 => ⟨S_, .i32⟩
  | 15 => ⟨S_, .i32⟩
  | 16 => ⟨S1x16x32, .f32⟩
  | 17 => ⟨S16x32, .f32⟩
  | 18 => ⟨S_, .i32⟩
  | 19 => ⟨S1x16, .i1⟩
  | 20 => ⟨S16, .i1⟩
  | 21 => ⟨S16x32x1, .f32⟩
  | 22 => ⟨S1x32x32, .f32⟩
  | 23 => ⟨S16x32x32, .f32⟩
  | 24 => ⟨S16x32x32, .f32⟩
  | 25 => ⟨S16x32x32, .f32⟩
  | 26 => ⟨S_, .f32⟩
  | 27 => ⟨S16x32, .f32⟩
  | 28 => ⟨S16x1x32, .f32⟩
  | 29 => ⟨S16x1x32, .f32⟩
  | 30 => ⟨S_, .f32⟩
  | 31 => ⟨S16x1x32, .f32⟩
  | 32 => ⟨S16x1x32, .i1⟩
  | 33 => ⟨S_, .f32⟩
  | 34 => ⟨S16x1x32, .f32⟩
  | 35 => ⟨S16x1x32, .f32⟩
  | 36 => ⟨S16x32x32, .f32⟩
  | 37 => ⟨S16x32x32, .f32⟩
  | 38 => ⟨S16x32x32, .f32⟩
  | 39 => ⟨S_, .f32⟩
  | 40 => ⟨S16x32, .f32⟩
  | 41 => ⟨S16x32, .f32⟩
  | 42 => ⟨S16x32, .f32⟩
  | 43 => ⟨S16x32, .f32⟩
  | 44 => ⟨S16x32, .f32⟩
  | 45 => ⟨S16x1, .i1⟩
  | 46 => ⟨S16x32, .i1⟩
  | 47 => ⟨S16x32, .f32⟩
  | 48 => ⟨S_, .i32⟩
  | 49 => ⟨S_, .i32⟩
  | 50 => ⟨S1x32, .f32⟩
  | 51 => ⟨S16x32, .f32⟩
  | 52 => ⟨S16x32, .f32⟩
  | 53 => ⟨S_, .f32⟩
  | 54 => ⟨S16, .f32⟩
  | 55 => ⟨S16x1, .f32⟩
  | 56 => ⟨S16x1, .f32⟩
  | 57 => ⟨S_, .f32⟩
  | 58 => ⟨S16x1, .f32⟩
  | 59 => ⟨S16x1, .i1⟩
  | 60 => ⟨S_, .f32⟩
  | 61 => ⟨S16x1, .f32⟩
  | 62 => ⟨S16x1, .f32⟩
  | 63 => ⟨S16x32, .f32⟩
  | 64 => ⟨S16x32, .f32⟩
  | 65 => ⟨S16x32, .f32⟩
  | 66 => ⟨S_, .f32⟩
  | 67 => ⟨S16, .f32⟩
  | 68 => ⟨S16, .f32⟩
  | 69 => ⟨S16, .f32⟩
  | 70 => ⟨S16, .f32⟩
  | 71 => ⟨S16, .f32⟩
  | _ => ⟨S16x2048x32, .f32⟩

abbrev hbmTy (i : Nat) : BufTy := match i / 128 with
  | 0 => hbmTy0_0 i
  | 1 => hbmTy0_1 i
  | _ => ⟨S16x2048x32, .f32⟩

abbrev bufTy : (tb : Table) → Fin (tcTables nBuf tb) → BufTy
  | .hbm, ⟨i, _⟩ => hbmTy i
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c : Ref sig .tc := ⟨.hbm, 42, rfl⟩
abbrev main_v14 : Ref sig .tc := ⟨.hbm, 43, rfl⟩
abbrev main_v15 : Ref sig .tc := ⟨.hbm, 44, rfl⟩
abbrev main_c_0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_1 : Ref sig .tc := ⟨.hbm, 49, rfl⟩
abbrev main_v19 : Ref sig .tc := ⟨.hbm, 50, rfl⟩
abbrev main_v20 : Ref sig .tc := ⟨.hbm, 51, rfl⟩
abbrev main_c_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_4 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_5 : Ref sig .tc := ⟨.hbm, 76, rfl⟩
abbrev main_v42 : Ref sig .tc := ⟨.hbm, 77, rfl⟩
abbrev main_v43 : Ref sig .tc := ⟨.hbm, 78, rfl⟩
abbrev main_c_6 : Ref sig .tc := ⟨.hbm, 79, rfl⟩
abbrev main_v44 : Ref sig .tc := ⟨.hbm, 80, rfl⟩
abbrev main_v45 : Ref sig .tc := ⟨.hbm, 81, rfl⟩
abbrev main_c_7 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_c_8 : Ref sig .tc := ⟨.hbm, 86, rfl⟩
abbrev main_v49 : Ref sig .tc := ⟨.hbm, 87, rfl⟩
abbrev main_v50 : Ref sig .tc := ⟨.hbm, 88, rfl⟩
abbrev main_c_9 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_10 : Ref sig .tc := ⟨.hbm, 97, rfl⟩
abbrev main_v58 : Ref sig .tc := ⟨.hbm, 98, rfl⟩
abbrev main_v59 : Ref sig .tc := ⟨.hbm, 99, rfl⟩
abbrev main_c_11 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_12 : Ref sig .tc := ⟨.hbm, 108, rfl⟩
abbrev main_v67 : Ref sig .tc := ⟨.hbm, 109, rfl⟩
abbrev main_v68 : Ref sig .tc := ⟨.hbm, 110, rfl⟩
abbrev main_c_13 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_14 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_15 : Ref sig .tc := ⟨.hbm, 134, rfl⟩
abbrev main_v90_0 : Ref sig .tc := ⟨.hbm, 135, rfl⟩
abbrev main_v90_1 : Ref sig .tc := ⟨.hbm, 136, rfl⟩
abbrev main_v90_2 : Ref sig .tc := ⟨.hbm, 137, rfl⟩
abbrev main_v90_3 : Ref sig .tc := ⟨.hbm, 138, rfl⟩
abbrev main_v90_4 : Ref sig .tc := ⟨.hbm, 139, rfl⟩
abbrev main_while0c_c_24 : Ref sig .tc := ⟨.hbm, 140, rfl⟩
abbrev main_while0c_v109 : Ref sig .tc := ⟨.hbm, 141, rfl⟩
abbrev main_while0b_call1_c : Ref sig .tc := ⟨.hbm, 142, rfl⟩
abbrev main_while0b_call1_c_0 : Ref sig .tc := ⟨.hbm, 143, rfl⟩
abbrev main_while0b_call1_v0 : Ref sig .tc := ⟨.hbm, 144, rfl⟩
abbrev main_while0b_v109 : Ref sig .tc := ⟨.hbm, 145, rfl⟩
abbrev main_while0b_call2_c : Ref sig .tc := ⟨.hbm, 146, rfl⟩
abbrev main_while0b_call2_v0 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_cst_24 : Ref sig .tc := ⟨.hbm, 154, rfl⟩
abbrev main_while0b_v116 : Ref sig .tc := ⟨.hbm, 155, rfl⟩
abbrev main_while0b_v117 : Ref sig .tc := ⟨.hbm, 156, rfl⟩
abbrev main_while0b_v118 : Ref sig .tc := ⟨.hbm, 157, rfl⟩
abbrev main_while0b_cst_25 : Ref sig .tc := ⟨.hbm, 158, rfl⟩
abbrev main_while0b_v119 : Ref sig .tc := ⟨.hbm, 159, rfl⟩
abbrev main_while0b_v120 : Ref sig .tc := ⟨.hbm, 160, rfl⟩
abbrev main_while0b_cst_26 : Ref sig .tc := ⟨.hbm, 161, rfl⟩
abbrev main_while0b_v121 : Ref sig .tc := ⟨.hbm, 162, rfl⟩
abbrev main_while0b_v122 : Ref sig .tc := ⟨.hbm, 163, rfl⟩
abbrev main_while0b_v123 : Ref sig .tc := ⟨.hbm, 164, rfl⟩
abbrev main_while0b_v124 : Ref sig .tc := ⟨.hbm, 165, rfl⟩
abbrev main_while0b_v125 : Ref sig .tc := ⟨.hbm, 166, rfl⟩
abbrev main_while0b_cst_27 : Ref sig .tc := ⟨.hbm, 167, rfl⟩
abbrev main_while0b_v126 : Ref sig .tc := ⟨.hbm, 168, rfl⟩
abbrev main_while0b_v127 : Ref sig .tc := ⟨.hbm, 169, rfl⟩
abbrev main_while0b_v128 : Ref sig .tc := ⟨.hbm, 170, rfl⟩
abbrev main_while0b_v129 : Ref sig .tc := ⟨.hbm, 171, rfl⟩
abbrev main_while0b_v130 : Ref sig .tc := ⟨.hbm, 172, rfl⟩
abbrev main_while0b_v131 : Ref sig .tc := ⟨.hbm, 173, rfl⟩
abbrev main_while0b_call4_v0 : Ref sig .tc := ⟨.hbm, 174, rfl⟩
abbrev main_while0b_v132 : Ref sig .tc := ⟨.hbm, 175, rfl⟩
abbrev main_while0b_c_28 : Ref sig .tc := ⟨.hbm, 176, rfl⟩
abbrev main_while0b_v133 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_16 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_cst_17 : Ref sig .tc := ⟨.hbm, 185, rfl⟩
abbrev main_v97 : Ref sig .tc := ⟨.hbm, 186, rfl⟩
abbrev main_v98 : Ref sig .tc := ⟨.hbm, 187, rfl⟩
abbrev main_cst_18 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_cst_19 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩

abbrev nD : Nat := 1
abbrev τ : Topo := Topo.v7x

variable {F : FTy → Type} [FloatOps F]

abbrev main_while0_count : Scf.Loop 32 := ⟨0#32, 2047#32, 1#32⟩
-- ==== Proof.RefRun.lean ====
/-
  The run of the reference: what its buffers hold at the end. No operation writes an argument; the loop writes
  neither an argument nor the path's score, computed before it; the result is read off the operations after the loop.
-/
module

public import proofs.«01_k».proof.Proof.Gen.ReferenceIdeal.Run
public import Idealize.ShloMosaic.Lib.Quiescent

@[expose] public section

set_option maxRecDepth 16384
set_option maxHeartbeats 4000000

noncomputable section

namespace Cert.ReferenceIdeal.Value

open Cert.ReferenceIdeal Cert.ReferenceIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- What the operations after the loop write. -/
abbrev postW : List (Ref sig .tc) :=
  [main_v91, main_v92, main_v93, main_cst_16, main_v94, main_v95, main_v96, main_cst_17, main_v97, main_v98, main_cst_18, main_v99]
    ++ [main_v100] ++ [main_v101, main_v102, main_v103, main_cst_19, main_v104, main_v105, main_v106, main_v107, main_v108]

/-- What the loop's condition and body write. -/
abbrev loopW : List (Ref sig .tc) :=
  condOps_W ++ while0Ops0_W ++ while0Ops0_1_W ++ while0Ops0_2_W ++ while0Ops0_3_W ++ while0Ops0_4_W ++ while0Ops0_5_W ++ while0Ops0_6_W

/-- What the operations before the loop write. -/
abbrev preW : List (Ref sig .tc) := hostOps0_W ++ hostOps0_1_W ++ hostOps0_2_W

theorem post_keeps (V : Valuation τ sig (Elt F)) {r : Ref sig .tc} (h : r ∉ postW) :
    afterL postI V (Proc.devRef .tc r) = V (Proc.devRef .tc r) := by
  simp only [postW, List.mem_append, not_or] at h
  simp only [postI, afterL_cons, afterL_nil]
  rw [after_unwritten _ rfl h.2, after_unwritten _ rfl h.1.2, after_unwritten _ rfl h.1.1]

theorem pre_keeps (c : Dev nD) {r : Ref sig .tc} (h : r ∉ preW) :
    entryContents preI m c (Proc.devRef .tc r) = m ((c.tc : Thread nD τ).loc r) := by
  simp only [preW, List.mem_append, not_or] at h
  show afterL preI _ _ = _
  simp only [preI, afterL_cons, afterL_nil]
  rw [after_of_writes_sub _ _ hostOps0_2_writes h.2, after_of_writes_sub _ _ hostOps0_1_writes h.1.2,
    after_of_writes_sub _ _ hostOps0_writes h.1.1]

theorem loop_keeps (c : Dev nD) {r : Ref sig .tc} (h : r ∉ loopW) (k : ℕ) :
    atK m k c (Proc.devRef .tc r) = entryContents preI m c (Proc.devRef .tc r) := by
  induction k with
  | zero => rfl
  | succ k ih =>
    simp only [loopW, List.mem_append, not_or] at h
    obtain ⟨⟨⟨⟨⟨⟨⟨h0, h1⟩, h2⟩, h3⟩, h4⟩, h5⟩, h6⟩, h7⟩ := h
    rw [← ih]
    show afterL bodyI _ _ = _
    simp only [bodyI, afterL_cons, afterL_nil]
    rw [after_of_writes_sub _ _ while0Ops0_6_writes h7, after_of_writes_sub _ _ while0Ops0_5_writes h6,
      after_of_writes_sub _ _ while0Ops0_4_writes h5, after_of_writes_sub _ _ while0Ops0_3_writes h4,
      after_of_writes_sub _ _ while0Ops0_2_writes h3, after_of_writes_sub _ _ while0Ops0_1_writes h2,
      after_of_writes_sub _ _ while0Ops0_writes h1, after_of_writes_sub _ _ condOps_writes h0]

/-- No operation of the program writes `r`: the buffer ends as it began. -/
theorem final_keeps (c : Dev nD) {r : Ref sig .tc} (h : r ∉ postW) (h' : r ∉ loopW) (h'' : r ∉ preW) :
    finalContents condOps preI bodyI postI 2047 m c (Proc.devRef .tc r) = m ((c.tc : Thread nD τ).loc r) := by
  show afterL postI (after condOps (atK m 2047 c)) _ = _
  rw [post_keeps _ h, after_of_writes_sub _ _ condOps_writes (fun hh => h' (by simp only [loopW, List.mem_append]; tauto)),
    loop_keeps m c h', pre_keeps m c h'']

/-- The run with the arguments unchanged and every counter at zero, beside the final contents of every buffer. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c =>
    ⟨(h c main_arg0 rfl).trans (final_keeps m c (by decide) (by decide) (by decide)),
      (h c main_arg1 rfl).trans (final_keeps m c (by decide) (by decide) (by decide)),
      (h c main_arg2 rfl).trans (final_keeps m c (by decide) (by decide) (by decide)),
      (h c main_arg3 rfl).trans (final_keeps m c (by decide) (by decide) (by decide)),
      (h c main_arg4 rfl).trans (final_keeps m c (by decide) (by decide) (by decide)),
      (h c main_arg5 rfl).trans (final_keeps m c (by decide) (by decide) (by decide))⟩,
    sem_eq_zero_of_no_sems rfl r.2⟩) (run_fold m ρ)

end Cert.ReferenceIdeal.Value

end
-- ==== Proof.BodyKernelIdeal.lean ====
/-
  The launch of `KernelIdeal`'s one kernel: what a trip of the loop over the two halves of the chunks does (the loop
  inside it by its generated invariant), the loop itself by an invariant, the body of the kernel as one run, the
  proof data of the pipeline and the run of @main.
-/
module

public import proofs.«01_k».proof.Proof.Gen.KernelIdeal.Frame
public import proofs.«01_k».proof.Proof.Gen.KernelIdeal.Loops
public import Idealize.ShloMosaic.Lib.Claim

@[expose] public section

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop over the two halves of the chunks -/

section Outer

variable (c : Dev nD) (arg0 : Memref sig .tc .vmem S32x1024x128 .bf16) (harg0 : arg0.IsWhole) (arg1 : Memref sig .tc .vmem S32x1040x32 .bf16) (harg1 : arg1.IsWhole)
  (arg2 : Memref sig .tc .vmem S16x32 .f32) (harg2 : arg2.IsWhole) (arg3 : Memref sig .tc .vmem S16x1 .i32) (harg3 : arg3.IsWhole)
  (arg4 : Memref sig .tc .vmem S1024x128 .i32) (harg4 : arg4.IsWhole) (arg5 : Memref sig .tc .vmem S1024x128 .i32) (harg5 : arg5.IsWhole)
  (arg6 : Memref sig .tc .vmem S32x32 .f32) (harg6 : arg6.IsWhole) (arg7 : Memref sig .tc .vmem S1x32 .f32) (harg7 : arg7.IsWhole)
  (arg8 : Memref sig .tc .vmem S1x32 .f32) (harg8 : arg8.IsWhole) (arg9 : Memref sig .tc .vmem S16x1 .f32) (harg9 : arg9.IsWhole)
  (arg10 : Memref sig .tc .vmem S8192x128 .bf16) (harg10 : arg10.IsWhole)
  (v3 : FVec F S32x32 .bf16) (v5 : FVec F S1x32 .f32) (v61 : FVec F S128x128 .bf16) (v110 : FVec F S512x8x128 .bf16) (v112 : FVec F S512x32 .bf16)
  (v114 : FVec F S16x32 .f32) (v131 : FVec F S16x1 .f32) (c0_i32_38 c1_i32_39 : BitVec 32)
  (X0 : BufTy.Contents (Elt F) arg0.view.ty) (X1 : BufTy.Contents (Elt F) arg1.view.ty)
  (X4 : BufTy.Contents (Elt F) arg4.view.ty) (X5 : BufTy.Contents (Elt F) arg5.view.ty)

/-- The buffers a trip only reads, at their contents. -/
abbrev reads : sProp 𝕄 :=
  iprop((arg0.view.loc (c : Thread nD τ) ↦[arg0.view.set]{fullShare} X0) ∗ (arg1.view.loc (c : Thread nD τ) ↦[arg1.view.set]{fullShare} X1)
    ∗ (arg4.view.loc (c : Thread nD τ) ↦[arg4.view.set]{fullShare} X4) ∗ (arg5.view.loc (c : Thread nD τ) ↦[arg5.view.set]{fullShare} X5))

/-- One trip: the three sums it yields as a function of the ones it is given, and the piece of the scratch it writes. -/
@[irreducible] def trip (k : Fin k0_t1_loop.trips) :
    { R : (FVec F S16x1 .f32 × FVec F S16x1 .f32 × FVec F S16x1 .f32 → FVec F S16x1 .f32 × FVec F S16x1 .f32 × FVec F S16x1 .f32)
        × List (View.Piece (Elt F) S8192x128 .bf16) //
      ∀ (acc : FVec F S16x1 .f32 × FVec F S16x1 .f32 × FVec F S16x1 .f32) (f : BufTy.Contents (Elt F) arg10.view.ty),
        iprop(reads c arg0 arg1 arg4 arg5 X0 X1 X4 X5 ∗ (arg10.view.loc (c : Thread nD τ) ↦[arg10.view.set]{fullShare} f))
        ⊢ wp frame (wpE (defs₀ (F := F)) Variants.none (c : Thread nD τ) none) Set.univ
            (k0_t1_body (F := F) arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 k acc)
            (fun yld => iprop(⌜yld = R.1 acc⌝ ∗ reads c arg0 arg1 arg4 arg5 X0 X1 X4 X5
              ∗ (arg10.view.loc (c : Thread nD τ) ↦[arg10.view.set]{fullShare} arg10.view.writes (Elt F) f R.2))) } := by
  have hk : k.val < 2 := Nat.lt_of_lt_of_le k.isLt k0_t1_abs.2.1
  refine ⟨⟨?_, ?_⟩, fun acc f => ?run⟩
  case run =>
    unfold k0_t1_body
    iintro ⟨⟨H0, H1, H4, H5⟩, H10⟩
    sl_exec
    sl_step
    sl_close

/-- The pieces of the scratch written before trip `k`, the last first. -/
def pcs : ℕ → List (View.Piece (Elt F) S8192x128 .bf16)
  | 0 => []
  | k + 1 => if h : k < k0_t1_loop.trips then (trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 ⟨k, h⟩).1.2 ++ pcs k else pcs k

/-- The three sums before trip `k`. -/
def accs (init : FVec F S16x1 .f32 × FVec F S16x1 .f32 × FVec F S16x1 .f32) : ℕ → FVec F S16x1 .f32 × FVec F S16x1 .f32 × FVec F S16x1 .f32
  | 0 => init
  | k + 1 => if h : k < k0_t1_loop.trips then (trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 ⟨k, h⟩).1.1 (accs init k) else accs init k

theorem pcs_succ (k : Fin k0_t1_loop.trips) :
    pcs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 (k.val + 1) = (trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 k).1.2 ++ pcs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 k.val := by
  rw [pcs, dif_pos k.isLt]

theorem accs_succ (init : FVec F S16x1 .f32 × FVec F S16x1 .f32 × FVec F S16x1 .f32) (k : Fin k0_t1_loop.trips) :
    accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 init (k.val + 1) = (trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 k).1.1 (accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 init k.val) := by
  rw [accs, dif_pos k.isLt]

/-- What holds before trip `k`: the buffers read at their contents, the scratch written with the pieces of the trips
    before, the carried sums those of the recursion. -/
abbrev outerInv (G : BufTy.Contents (Elt F) arg10.view.ty) (init : FVec F S16x1 .f32 × FVec F S16x1 .f32 × FVec F S16x1 .f32) (k : ℕ)
    (acc : FVec F S16x1 .f32 × FVec F S16x1 .f32 × FVec F S16x1 .f32) : sProp 𝕄 :=
  iprop((arg0.view.loc (c : Thread nD τ) ↦[arg0.view.set]{fullShare} X0) ∗ (arg1.view.loc (c : Thread nD τ) ↦[arg1.view.set]{fullShare} X1)
    ∗ (arg4.view.loc (c : Thread nD τ) ↦[arg4.view.set]{fullShare} X4) ∗ (arg5.view.loc (c : Thread nD τ) ↦[arg5.view.set]{fullShare} X5)
    ∗ (∃ f, (arg10.view.loc (c : Thread nD τ) ↦[arg10.view.set]{fullShare} f)
        ∗ ⌜f = arg10.view.writes (Elt F) G (pcs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 k)⌝)
    ∗ ⌜acc = accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 init k⌝)

set_option warn.classDefReducibility false in
/-- The loop by its invariant. -/
@[sl_loop] def loopInv_k0_t1 (G : BufTy.Contents (Elt F) arg10.view.ty) (init : FVec F S16x1 .f32 × FVec F S16x1 .f32 × FVec F S16x1 .f32) :
    LoopInvTy_k0_t1 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 init where
  inv := outerInv c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 G init
  step k acc := by
    iintro ⟨H0, H1, H4, H5, ⟨%f, H10, %hf⟩, %hacc⟩
    subst hacc
    iapply (wp_wand_r Idealize.ShloMosaic.frame (wpE (defs₀ (F := F)) Variants.none (c : Thread nD τ) none) Set.univ)
    isplitl [H0 H1 H4 H5 H10]
    · iapply ((trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 k).2 (accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 init k) f)
      isplitl [H0 H1 H4 H5]
      · isplitl [H0]; · iexact H0
        isplitl [H1]; · iexact H1
        isplitl [H4]; · iexact H4
        iexact H5
      iexact H10
    · iintro %yld ⟨%hres, ⟨H0, H1, H4, H5⟩, H10⟩
      isplitl [H0]; · iexact H0
      isplitl [H1]; · iexact H1
      isplitl [H4]; · iexact H4
      isplitl [H5]; · iexact H5
      isplitl [H10]
      · iexists _
        isplitl [H10]; · iexact H10
        ipureintro
        rw [pcs_succ, View.writes_append, hf]
      ipureintro
      rw [accs_succ]; exact hres

/-- The piece of the scratch trip `k` writes: the rows of its half of the chunks. -/
theorem trip_piece (k : Fin k0_t1_loop.trips) : ∃ (h : ∀ a, k0_off8 k a + S4096x128.size a ≤ S8192x128.size a) (v : Vec F S4096x128 .bf16),
    (trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 k).1.2 = [⟨Rect.unit (s := S8192x128) (k0_off8 k) S4096x128.size h, v⟩] := by
  unfold trip
  exact ⟨_, _, rfl⟩

/-- The two trips write the whole scratch, so what they leave does not depend on what it held. -/
theorem writes_pcs (f g : BufTy.Contents (Elt F) arg10.view.ty) :
    arg10.view.writes (Elt F) f (pcs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 (Scf.trips k0_t1_loop.lb k0_t1_loop.ub k0_t1_loop.st))
      = arg10.view.writes (Elt F) g (pcs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 (Scf.trips k0_t1_loop.lb k0_t1_loop.ub k0_t1_loop.st)) := by
  have h2 : Scf.trips k0_t1_loop.lb k0_t1_loop.ub k0_t1_loop.st = 2 := by decide
  have t0 : k0_t1_loop.trips = 2 := h2
  have e1 := pcs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 ⟨0, by rw [t0]; decide⟩
  have e2 := pcs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 ⟨1, by rw [t0]; decide⟩
  obtain ⟨h0, w0, p0⟩ := trip_piece c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 ⟨0, by rw [t0]; decide⟩
  obtain ⟨h1, w1, p1⟩ := trip_piece c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 X0 X1 X4 X5 ⟨1, by rw [t0]; decide⟩
  rw [h2]
  simp only [Nat.reduceAdd] at e1 e2
  rw [e2, e1, p0, p1]
  refine (harg10.eq_unread rfl).trans ((congrArg harg10.unread ?_).trans (harg10.eq_unread rfl).symm)
  refine View.read_writes_of_cover _ _ _ _ _ fun y => ?_
  exact View.cover_of_tiledL (s := S8192x128) _ (![4096, 128] : Fin 2 → ℕ) (by sl_kernel_rfl) y

end Outer

/-! ## The body -/

section Run

variable (c : Dev nD) (arg0 : Memref sig .tc .vmem S32x1024x128 .bf16) (harg0 : arg0.IsWhole) (arg1 : Memref sig .tc .vmem S32x1040x32 .bf16) (harg1 : arg1.IsWhole)
  (arg2 : Memref sig .tc .vmem S16x32 .f32) (harg2 : arg2.IsWhole) (arg3 : Memref sig .tc .vmem S16x1 .i32) (harg3 : arg3.IsWhole)
  (arg4 : Memref sig .tc .vmem S1024x128 .i32) (harg4 : arg4.IsWhole) (arg5 : Memref sig .tc .vmem S1024x128 .i32) (harg5 : arg5.IsWhole)
  (arg6 : Memref sig .tc .vmem S32x32 .f32) (harg6 : arg6.IsWhole) (arg7 : Memref sig .tc .vmem S1x32 .f32) (harg7 : arg7.IsWhole)
  (arg8 : Memref sig .tc .vmem S1x32 .f32) (harg8 : arg8.IsWhole) (arg9 : Memref sig .tc .vmem S16x1 .f32) (harg9 : arg9.IsWhole)
  (arg10 : Memref sig .tc .vmem S8192x128 .bf16) (harg10 : arg10.IsWhole)
  (x0 : Vec F S32x1024x128 .bf16) (x1 : Vec F S32x1040x32 .bf16) (x2 : Vec F S16x32 .f32) (x3 : Vec F S16x1 .i32)
  (x4 x5 : Vec F S1024x128 .i32) (x6 : Vec F S32x32 .f32) (x7 x8 : Vec F S1x32 .f32)

/-- The nine operands the body reads, at their contents. -/
abbrev inputs : sProp 𝕄 :=
  iprop((arg0.view.loc (c : Thread nD τ) ↦[arg0.view.set]{fullShare} harg0.unread x0) ∗ (arg1.view.loc (c : Thread nD τ) ↦[arg1.view.set]{fullShare} harg1.unread x1)
    ∗ (arg2.view.loc (c : Thread nD τ) ↦[arg2.view.set]{fullShare} harg2.unread x2) ∗ (arg3.view.loc (c : Thread nD τ) ↦[arg3.view.set]{fullShare} harg3.unread x3)
    ∗ (arg4.view.loc (c : Thread nD τ) ↦[arg4.view.set]{fullShare} harg4.unread x4) ∗ (arg5.view.loc (c : Thread nD τ) ↦[arg5.view.set]{fullShare} harg5.unread x5)
    ∗ (arg6.view.loc (c : Thread nD τ) ↦[arg6.view.set]{fullShare} harg6.unread x6) ∗ (arg7.view.loc (c : Thread nD τ) ↦[arg7.view.set]{fullShare} harg7.unread x7)
    ∗ (arg8.view.loc (c : Thread nD τ) ↦[arg8.view.set]{fullShare} harg8.unread x8))

/-- The body as one run: from the operands at their contents, the result's buffer and the scratch at anything, to the
    result's buffer written with the pieces the run finds and the scratch at something. -/
@[irreducible] def bodyRun (f10 : BufTy.Contents (Elt F) arg10.view.ty) :
    { L : List (View.Piece (Elt F) S16x1 .f32) //
      ∀ (f9 : BufTy.Contents (Elt F) arg9.view.ty) (K : PUnit → sProp 𝕄),
        iprop(inputs c arg0 harg0 arg1 harg1 arg2 harg2 arg3 harg3 arg4 harg4 arg5 harg5 arg6 harg6 arg7 harg7 arg8 harg8 x0 x1 x2 x3 x4 x5 x6 x7 x8
          ∗ (arg9.view.loc (c : Thread nD τ) ↦[arg9.view.set]{fullShare} f9)
          ∗ (arg10.view.loc (c : Thread nD τ) ↦[arg10.view.set]{fullShare} f10)
          ∗ (iprop(inputs c arg0 harg0 arg1 harg1 arg2 harg2 arg3 harg3 arg4 harg4 arg5 harg5 arg6 harg6 arg7 harg7 arg8 harg8 x0 x1 x2 x3 x4 x5 x6 x7 x8
              ∗ (arg9.view.loc (c : Thread nD τ) ↦[arg9.view.set]{fullShare} arg9.view.writes (Elt F) f9 L)
              ∗ (∃ f, arg10.view.loc (c : Thread nD τ) ↦[arg10.view.set]{fullShare} f)) -∗ K ⟨⟩))
        ⊢ wp frame (wpE (defs₀ (F := F)) Variants.none (c : Thread nD τ) none) Set.univ
            (cc0__crf_body (F := F) arg0 harg0 arg1 harg1 arg2 harg2 arg3 harg3 arg4 harg4 arg5 harg5 arg6 harg6 arg7 harg7 arg8 harg8 arg9 harg9 arg10 harg10) K } := by
  refine ⟨?_, fun f9 K => ?run⟩
  case run =>
    simp only [cc0__crf_body_eq_skeleton]; unfold cc0__crf_body_skel
    iintro ⟨⟨H0, H1, H2, H3, H4, H5, H6, H7, H8⟩, H9, H10, Hk⟩
    sl_exec
    sl_step
    iapply Hk
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    iexists _; iexact H10

/-- What the body leaves in the result does not depend on what the scratch held. -/
theorem bodyRun_scratch (f g : BufTy.Contents (Elt F) arg10.view.ty) : (bodyRun c arg0 harg0 arg1 harg1 arg2 harg2 arg3 harg3 arg4 harg4 arg5 harg5 arg6 harg6 arg7 harg7 arg8 harg8 arg9 harg9 arg10 harg10 x0 x1 x2 x3 x4 x5 x6 x7 x8 f).1 = (bodyRun c arg0 harg0 arg1 harg1 arg2 harg2 arg3 harg3 arg4 harg4 arg5 harg5 arg6 harg6 arg7 harg7 arg8 harg8 arg9 harg9 arg10 harg10 x0 x1 x2 x3 x4 x5 x6 x7 x8 g).1 := by
  unfold bodyRun
  dsimp only
  unfold bodyRun.sl.r_12
  rw [writes_pcs _ _ _ _ _ _ _ _ _ _ _ _ _ _ _ _ _ _ _ _ _ _ _ _ _ _ _ _ _ _ _ _ _ _ _ _ f g]

end Run

/-! ## The proof data of the launch -/

variable (m : (ℓ : Loc nD τ sig) → Buf (Elt F) ℓ) (ρ : Dev nD → PrngReg)

abbrev ms0 (t : Fin cfg0.N) : Memref sig .tc .vmem S32x1024x128 .bf16 := win0_0.stage (cfg0.slots t 0)
abbrev hs0 (t : Fin cfg0.N) : (ms0 t).IsWhole := hstage0_0 0
abbrev ms1 (t : Fin cfg0.N) : Memref sig .tc .vmem S32x1040x32 .bf16 := win0_1.stage (cfg0.slots t 1)
abbrev hs1 (t : Fin cfg0.N) : (ms1 t).IsWhole := hstage0_1 0
abbrev ms2 (t : Fin cfg0.N) : Memref sig .tc .vmem S16x32 .f32 := win0_2.stage (cfg0.slots t 2)
abbrev hs2 (t : Fin cfg0.N) : (ms2 t).IsWhole := hstage0_2 0
abbrev ms3 (t : Fin cfg0.N) : Memref sig .tc .vmem S16x1 .i32 := win0_3.stage (cfg0.slots t 3)
abbrev hs3 (t : Fin cfg0.N) : (ms3 t).IsWhole := hstage0_3 0
abbrev ms4 (t : Fin cfg0.N) : Memref sig .tc .vmem S1024x128 .i32 := win0_4.stage (cfg0.slots t 4)
abbrev hs4 (t : Fin cfg0.N) : (ms4 t).IsWhole := hstage0_4 0
abbrev ms5 (t : Fin cfg0.N) : Memref sig .tc .vmem S1024x128 .i32 := win0_5.stage (cfg0.slots t 5)
abbrev hs5 (t : Fin cfg0.N) : (ms5 t).IsWhole := hstage0_5 0
abbrev ms6 (t : Fin cfg0.N) : Memref sig .tc .vmem S32x32 .f32 := win0_6.stage (cfg0.slots t 6)
abbrev hs6 (t : Fin cfg0.N) : (ms6 t).IsWhole := hstage0_6 0
abbrev ms7 (t : Fin cfg0.N) : Memref sig .tc .vmem S1x32 .f32 := win0_7.stage (cfg0.slots t 7)
abbrev hs7 (t : Fin cfg0.N) : (ms7 t).IsWhole := hstage0_7 0
abbrev ms8 (t : Fin cfg0.N) : Memref sig .tc .vmem S1x32 .f32 := win0_8.stage (cfg0.slots t 8)
abbrev hs8 (t : Fin cfg0.N) : (ms8 t).IsWhole := hstage0_8 0
abbrev ms9 (t : Fin cfg0.N) : Memref sig .tc .vmem S16x1 .f32 := win0_9.stage (cfg0.slots t 9)
abbrev hs9 (t : Fin cfg0.N) : (ms9 t).IsWhole := hstage0_9 0
/-- The scratch. -/
abbrev scM : Memref sig .tc .vmem S8192x128 .bf16 := Memref.whole cc0_scratch0

/-- The run of the body at point `t`, the scratch at contents nothing depends on. -/
abbrev runAt (c : Dev nD) (t : Fin cfg0.N) : List (View.Piece (Elt F) S16x1 .f32) :=
  (bodyRun c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (iblk m c 0 t) (iblk m c 1 t) (iblk m c 2 t) (iblk m c 3 t) (iblk m c 4 t) (iblk m c 5 t) (iblk m c 6 t) (iblk m c 7 t) (iblk m c 8 t) (scM.view.junk)).1

/-- What the body leaves in the result's buffer at point `t`. -/
def outAt (c : Dev nD) (t : Fin cfg0.N) : Vec F S16x1 .f32 :=
  (ms9 t).view.read (Elt F) ((ms9 t).view.writes (Elt F) (ms9 t).view.junk (runAt m c t))

theorem cover9 (c : Dev nD) (t : Fin cfg0.N) (y : S16x1.Idx) : ∃ pc ∈ runAt m c t, y ∈ pc.1.set := by
  unfold runAt bodyRun
  exact View.cover_of_tiledL _ S16x1.size (by sl_kernel_rfl) y

/-- The proof data: every operand left in place, the result at `outAt`, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)))
/-- What the body ends at. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t))

theorem hset : (scM.view.set : Finset _) = Finset.univ := by
  simp

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after9, after0, after1, after2, after3, after4, after5, after6, after7, after8]
  simp only [before0, before1, before2, before3, before4, before5, before6, before7, before8]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  unfold outAt
  unfold owns
  iintro ⟨⟨⟨%fs, HS⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  obtain rfl := (hs0 t).eq_unread e0
  obtain rfl := (hs1 t).eq_unread e1
  obtain rfl := (hs2 t).eq_unread e2
  obtain rfl := (hs3 t).eq_unread e3
  obtain rfl := (hs4 t).eq_unread e4
  obtain rfl := (hs5 t).eq_unread e5
  obtain rfl := (hs6 t).eq_unread e6
  obtain rfl := (hs7 t).eq_unread e7
  obtain rfl := (hs8 t).eq_unread e8
  iapply ((bodyRun c (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM (Memref.isWhole_whole _) (iblk m c 0 t) (iblk m c 1 t) (iblk m c 2 t) (iblk m c 3 t) (iblk m c 4 t) (iblk m c 5 t) (iblk m c 6 t) (iblk m c 7 t) (iblk m c 8 t) fs).2 f9 _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [HS]
  · rw [hset]; iexact HS
  iintro ⟨⟨H0, H1, H2, H3, H4, H5, H6, H7, H8⟩, H9, ⟨%fs', HS⟩⟩
  isplitl [HS Hg]
  · isplitl [HS]
    · iexists fs'; rw [hset]; iexact HS
    iexact Hg
  isplitl [HW]; · iexact HW
  isplitl [H0]
  · iexists _; isplitr; · ipureintro; exact (hs0 t).read_unread _
    iexact H0
  isplitl [H1]
  · iexists _; isplitr; · ipureintro; exact (hs1 t).read_unread _
    iexact H1
  isplitl [H2]
  · iexists _; isplitr; · ipureintro; exact (hs2 t).read_unread _
    iexact H2
  isplitl [H3]
  · iexists _; isplitr; · ipureintro; exact (hs3 t).read_unread _
    iexact H3
  isplitl [H4]
  · iexists _; isplitr; · ipureintro; exact (hs4 t).read_unread _
    iexact H4
  isplitl [H5]
  · iexists _; isplitr; · ipureintro; exact (hs5 t).read_unread _
    iexact H5
  isplitl [H6]
  · iexists _; isplitr; · ipureintro; exact (hs6 t).read_unread _
    iexact H6
  isplitl [H7]
  · iexists _; isplitr; · ipureintro; exact (hs7 t).read_unread _
    iexact H7
  isplitl [H8]
  · iexists _; isplitr; · ipureintro; exact (hs8 t).read_unread _
    iexact H8
  iexists _; isplitr
  swap; · iexact H9
  ipureintro
  rw [bodyRun_scratch _ _ _ _ _ _ _ _ _ _ _ _ _ _ _ _ _ _ _ _ _ _ _ _ _ _ _ _ _ _ _ _ fs scM.view.junk]
  exact View.read_writes_of_cover _ _ _ _ _ (cover9 m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every weakly fair execution of @main terminates, every array of the pipeline at what the proof data say,
    every other buffer as the host lines after the launch leave it, every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every execution terminates, the six argument arrays end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Math.lean ====
module

public import Idealize.ShloMosaic.Lib.Pointwise
public import Idealize.ShloMosaic.Lib.IdealHost

@[expose] public section

/-!
  The mathematics of the forward algorithm, apart from either program: exponentials and logarithms over the extended
  reals carried to the reals, the log-sum-exp with any finite shift, the forward recursion on real weights, and the
  products of one chunk's transition matrices.
-/
noncomputable section
open Idealize.ShloMosaic

namespace Cert.Crf

/-- The exponential of an extended real, as a real (`⊥` gives `0`). -/
def ex (x : EReal) : ℝ := (Ideal.exp x).toReal

/-- The logarithm of a real, as an extended real: `⊥` at every real that is not positive. -/
def elog (r : ℝ) : EReal := if r ≤ 0 then ⊥ else (Real.log r : EReal)

/-- The exponential of `⊥` is zero. -/
theorem ex_bot : ex ⊥ = 0 := by simp [ex]

/-- On reals `ex` is the real exponential. -/
theorem ex_coe (r : ℝ) : ex (r : EReal) = Real.exp r := by simp [ex]

/-- Below `⊤` the exponential is the real `ex`. -/
theorem exp_eq {x : EReal} (h : x < ⊤) : Ideal.exp x = (ex x : EReal) := by
  induction x with
  | bot => simp [ex]
  | top => exact absurd h (lt_irrefl _)
  | coe r => simp [ex]

/-- `ex` is never negative. -/
theorem ex_nonneg (x : EReal) : 0 ≤ ex x := by
  induction x with
  | bot => simp [ex]
  | top => simp [ex]
  | coe r => rw [ex_coe]; exact (Real.exp_pos r).le

/-- The exponential of a sum is the product, below `⊤`. -/
theorem ex_add {x y : EReal} (hx : x < ⊤) (hy : y < ⊤) : ex (x + y) = ex x * ex y := by
  induction x with
  | bot => rw [EReal.bot_add, ex_bot, zero_mul]
  | top => exact absurd hx (lt_irrefl _)
  | coe r =>
    induction y with
    | bot => rw [EReal.add_bot, ex_bot, mul_zero]
    | top => exact absurd hy (lt_irrefl _)
    | coe s => rw [← EReal.coe_add, ex_coe, ex_coe, ex_coe, Real.exp_add]

/-- The exponential less a real shift. -/
theorem exp_sub {x : EReal} (hx : x < ⊤) (m : ℝ) : Ideal.exp (x - (m : EReal)) = ((ex x * Real.exp (-m) : ℝ) : EReal) := by
  induction x with
  | bot => rw [EReal.bot_sub, ex_bot, zero_mul]; simp
  | top => exact absurd hx (lt_irrefl _)
  | coe r => rw [← EReal.coe_sub, Ideal.exp_coe, ex_coe, ← Real.exp_add, sub_eq_add_neg]

/-- The logarithm of a real. -/
theorem log_eq (r : ℝ) : Ideal.log (r : EReal) = elog r := by rw [Ideal.log_coe]; rfl

/-- `elog` stays below `⊤`. -/
theorem elog_lt_top (r : ℝ) : elog r < ⊤ := by
  unfold elog; split
  · exact bot_lt_top
  · exact EReal.coe_lt_top _

/-- `ex` undoes `elog` on reals that are not negative. -/
theorem ex_elog {r : ℝ} (h : 0 ≤ r) : ex (elog r) = r := by
  unfold elog; split
  next h' => rw [ex_bot]; exact le_antisymm h h'
  next h' => rw [ex_coe, Real.exp_log (not_le.mp h')]

/-- `elog` undoes `ex` below `⊤`. -/
theorem elog_ex {x : EReal} (h : x < ⊤) : elog (ex x) = x := by
  induction x with
  | bot => rw [ex_bot]; simp [elog]
  | top => exact absurd h (lt_irrefl _)
  | coe r => rw [ex_coe, elog, if_neg (not_le.mpr (Real.exp_pos r)), Real.log_exp]

/-- A real shift goes into the logarithm as a factor. -/
theorem elog_mul_exp (r c : ℝ) : elog (r * Real.exp c) = elog r + (c : EReal) := by
  unfold elog
  by_cases h : r ≤ 0
  · rw [if_pos h, if_pos (mul_nonpos_of_nonpos_of_nonneg h (Real.exp_pos c).le), EReal.bot_add]
  · have h' := not_le.mp h
    rw [if_neg h, if_neg (not_le.mpr (mul_pos h' (Real.exp_pos c))), Real.log_mul h'.ne' (Real.exp_pos c).ne', Real.log_exp,
      EReal.coe_add]

/-- A summand below `⊤` goes into the logarithm as a factor. -/
theorem elog_mul_ex (r : ℝ) {x : EReal} (h : x < ⊤) : elog (r * ex x) = elog r + x := by
  induction x with
  | bot => rw [ex_bot, mul_zero, EReal.add_bot]; simp [elog]
  | top => exact absurd h (lt_irrefl _)
  | coe c => rw [ex_coe, elog_mul_exp]

/-- A sum of reals read as extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Weighted log-sum-exp with a real shift: the shift cancels. -/
theorem lse_shift {n : ℕ} (v : Fin n → EReal) (hv : ∀ i, v i < ⊤) (W : Fin n → ℝ) (m : ℝ) :
    Ideal.log (∑ i, Ideal.exp (v i - (m : EReal)) * (W i : EReal)) + (m : EReal) = elog (∑ i, ex (v i) * W i) := by
  have h : ∑ i, Ideal.exp (v i - (m : EReal)) * (W i : EReal) = (((∑ i, ex (v i) * W i) * Real.exp (-m) : ℝ) : EReal) := by
    rw [Finset.sum_mul, ← coe_sum]
    refine Finset.sum_congr rfl fun i _ => ?_
    rw [exp_sub (hv i), ← EReal.coe_mul]; congr 1; ring
  rw [h, log_eq, elog_mul_exp, add_assoc, ← EReal.coe_add, neg_add_cancel, EReal.coe_zero, add_zero]

/-- The pattern of minus infinity. -/
theorem ofBits_ninf : Ideal.ofBits .f32 0xFF800000#32 = ⊥ := by simp [Ideal.ofBits, Ideal.ieee]

/-- The pattern of plus infinity. -/
theorem ofBits_inf : Ideal.ofBits .f32 0x7F800000#32 = ⊤ := by simp [Ideal.ofBits, Ideal.ieee]

/-- The constant the kernel takes out of every emission, as a real. -/
def shiftC : ℝ := (Ideal.ofBits .f32 0x4059999A#32).toReal

/-- The constant's pattern is that real. -/
theorem ofBits_shiftC : Ideal.ofBits .f32 0x4059999A#32 = (shiftC : EReal) := by
  have : ∃ r : ℝ, Ideal.ofBits .f32 0x4059999A#32 = (r : EReal) := by
    simp [Ideal.ofBits, Ideal.ieee]
    exact ⟨14260634 * ((2 ^ 22 : ℝ))⁻¹, (EReal.coe_mul _ _).symm⟩
  obtain ⟨r, hr⟩ := this
  rw [shiftC, hr, EReal.toReal_coe]

/-- The greatest of finitely many values below `⊤` is a real, or everything is `⊥`. -/
theorem fold_max_cases {n : ℕ} (f : Fin n → EReal) (hf : ∀ i, f i < ⊤) :
    (Finset.univ.fold max (⊥ : EReal) f = ⊥ ∧ ∀ i, f i = ⊥) ∨ ∃ r : ℝ, Finset.univ.fold max (⊥ : EReal) f = (r : EReal) := by
  have hs : Finset.univ.fold max (⊥ : EReal) f = Finset.univ.sup f := rfl
  rw [hs]
  have hlt : Finset.univ.sup f < ⊤ := (Finset.sup_lt_iff bot_lt_top).mpr fun i _ => hf i
  generalize hx : Finset.univ.sup f = x at *
  induction x with
  | bot => exact Or.inl ⟨rfl, fun i => by
      have := Finset.le_sup (f := f) (Finset.mem_univ i); rw [hx] at this; exact le_bot_iff.mp this⟩
  | top => exact absurd hlt (lt_irrefl _)
  | coe r => exact Or.inr ⟨r, rfl⟩

/-- Log-sum-exp shifted by the greatest value, whatever that is: `⊥` where every value is `⊥`. -/
theorem lse_max {n : ℕ} (v : Fin n → EReal) (hv : ∀ i, v i < ⊤) (W : Fin n → ℝ) :
    Ideal.log (∑ i, Ideal.exp (v i - Finset.univ.fold max (⊥ : EReal) v) * (W i : EReal)) + Finset.univ.fold max (⊥ : EReal) v
      = elog (∑ i, ex (v i) * W i) := by
  rcases fold_max_cases v hv with ⟨h, hb⟩ | ⟨r, h⟩
  · rw [h, EReal.add_bot]
    simp [hb, ex_bot, elog]
  · rw [h]; exact lse_shift v hv W r

/-- The same without weights. -/
theorem lse_max_one {n : ℕ} (v : Fin n → EReal) (hv : ∀ i, v i < ⊤) :
    Ideal.log (∑ i, Ideal.exp (v i - Finset.univ.fold max (⊥ : EReal) v)) + Finset.univ.fold max (⊥ : EReal) v
      = elog (∑ i, ex (v i)) := by
  have := lse_max v hv fun _ => 1
  simpa using this

/-- Log-sum-exp shifted by a real, without weights. -/
theorem lse_shift_one {n : ℕ} (v : Fin n → EReal) (hv : ∀ i, v i < ⊤) (m : ℝ) :
    Ideal.log (∑ i, Ideal.exp (v i - (m : EReal))) + (m : EReal) = elog (∑ i, ex (v i)) := by
  have := lse_shift v hv (fun _ => 1) m
  simpa using this

/-- The absolute value of an extended real is below `⊤` exactly at the reals. -/
theorem abs_lt_top_iff (x : EReal) : max x (-x) < ⊤ ↔ x ≠ ⊥ ∧ x ≠ ⊤ := by
  induction x with
  | bot => simp
  | top => simp
  | coe r =>
    refine ⟨fun _ => ⟨EReal.coe_ne_bot r, EReal.coe_ne_top r⟩, fun _ => ?_⟩
    rw [← EReal.coe_neg]; exact max_lt (EReal.coe_lt_top _) (EReal.coe_lt_top _)

/-- Log-sum-exp shifted by the greatest value where that is a real, and by zero elsewhere. -/
theorem lse_safe {n : ℕ} (v : Fin n → EReal) (hv : ∀ i, v i < ⊤) (m : EReal)
    (hm : m = if max (Finset.univ.fold max (⊥ : EReal) v) (-(Finset.univ.fold max (⊥ : EReal) v)) < ⊤
      then Finset.univ.fold max (⊥ : EReal) v else 0) :
    Ideal.log (∑ i, Ideal.exp (v i - m)) + m = elog (∑ i, ex (v i)) := by
  subst hm
  rcases fold_max_cases v hv with ⟨h, _⟩ | ⟨r, h⟩
  · rw [if_neg (by rw [h, abs_lt_top_iff]; simp)]
    have := lse_shift_one v hv 0
    simpa using this
  · rw [if_pos (by rw [h, abs_lt_top_iff]; exact ⟨EReal.coe_ne_bot r, EReal.coe_ne_top r⟩), h]
    exact lse_shift_one v hv r

/-! ### The forward recursion and the chunk products, on real weights -/

section Recursion
variable (E : Fin 32 → Fin 32 → ℝ) (p : ℕ → Fin 32 → ℝ) (a0 : Fin 32 → ℝ) (L : ℕ)

/-- The forward weights: `fwd u j` is the total weight of the paths ending in tag `j` at time `u` (frozen from the end of
    the sequence on). -/
def fwd : ℕ → Fin 32 → ℝ
  | 0, j => a0 j
  | u + 1, j => if u + 1 < L then (∑ i, fwd u i * E i j) * p (u + 1) j else fwd u j

/-- The product of the first `s` transition matrices of chunk `c`, each emission scaled by `exp (-C)`. -/
def chunk (C : ℝ) (c : ℕ) : ℕ → Fin 32 → Fin 32 → ℝ
  | 0, i, j => if i = j then 1 else 0
  | s + 1, i, j =>
    if 32 * c + s + 1 < L then (∑ k, chunk C c s i k * E k j) * (p (32 * c + s + 1) j * Real.exp (-C)) else chunk C c s i j

/-- The forward weights are not negative. -/
theorem fwd_nonneg (hE : ∀ i j, 0 ≤ E i j) (hp : ∀ u j, 0 ≤ p u j) (ha : ∀ j, 0 ≤ a0 j) : ∀ u j, 0 ≤ fwd E p a0 L u j
  | 0, j => ha j
  | u + 1, j => by
    unfold fwd; split
    · exact mul_nonneg (Finset.sum_nonneg fun i _ => mul_nonneg (fwd_nonneg hE hp ha u i) (hE i j)) (hp _ _)
    · exact fwd_nonneg hE hp ha u j

/-- A chunk's product carries the forward weights from the chunk's start to the step it has reached. -/
theorem chunk_fwd (C : ℝ) (c : ℕ) : ∀ (s : ℕ) (j : Fin 32),
    (∑ i, fwd E p a0 L (32 * c) i * chunk E p L C c s i j) * Real.exp (((min s (L - 1 - 32 * c) : ℕ) : ℝ) * C)
      = fwd E p a0 L (32 * c + s) j
  | 0, j => by simp [chunk]
  | s + 1, j => by
    have ih := chunk_fwd C c s
    rw [show 32 * c + (s + 1) = (32 * c + s) + 1 from rfl]
    conv_rhs => unfold fwd
    by_cases h : 32 * c + s + 1 < L
    · rw [if_pos h]
      have hs : min (s + 1) (L - 1 - 32 * c) = s + 1 := by omega
      have hs' : min s (L - 1 - 32 * c) = s := by omega
      rw [hs, Nat.cast_add, Nat.cast_one, add_mul, one_mul, Real.exp_add]
      have hx : Real.exp (-C) * Real.exp C = 1 := by rw [← Real.exp_add, neg_add_cancel, Real.exp_zero]
      simp only [← ih, hs', chunk, if_pos h]
      have e1 : ∀ i : Fin 32, fwd E p a0 L (32 * c) i * ((∑ k, chunk E p L C c s i k * E k j) * (p (32 * c + s + 1) j * Real.exp (-C)))
          = (∑ k, fwd E p a0 L (32 * c) i * chunk E p L C c s i k * E k j) * (p (32 * c + s + 1) j * Real.exp (-C)) := fun i => by
        rw [← mul_assoc, Finset.mul_sum]; simp only [mul_assoc]
      simp only [e1]
      rw [← Finset.sum_mul, Finset.sum_comm]
      have e2 : ∀ k : Fin 32, (∑ i, fwd E p a0 L (32 * c) i * chunk E p L C c s i k) * Real.exp ((s : ℝ) * C) * E k j
          = (∑ i, fwd E p a0 L (32 * c) i * chunk E p L C c s i k * E k j) * Real.exp ((s : ℝ) * C) := fun k => by
        rw [mul_right_comm, Finset.sum_mul]
      simp only [e2]
      rw [← Finset.sum_mul]
      generalize (∑ k, ∑ i, fwd E p a0 L (32 * c) i * chunk E p L C c s i k * E k j) = S
      calc S * (p (32 * c + s + 1) j * Real.exp (-C)) * (Real.exp (s * C) * Real.exp C)
          = S * p (32 * c + s + 1) j * Real.exp (s * C) * (Real.exp (-C) * Real.exp C) := by ring
        _ = _ := by rw [hx]; ring
    · rw [if_neg h]
      have hs : min (s + 1) (L - 1 - 32 * c) = min s (L - 1 - 32 * c) := by omega
      rw [hs, ← ih]
      simp only [chunk, if_neg h]

/-- From the last valid position on nothing moves. -/
theorem fwd_stop (u v : ℕ) (h : L ≤ u + 1) (huv : u ≤ v) (j : Fin 32) : fwd E p a0 L v j = fwd E p a0 L u j := by
  induction v, huv using Nat.le_induction with
  | base => rfl
  | succ v hv ih => rw [fwd, if_neg (by omega), ih]

end Recursion

end Cert.Crf
-- ==== Proof.Spec.lean ====
module

public import proofs.«01_k».proof.Proof.Math

@[expose] public section

/-!
  What both programs compute, as one function of the six arguments: the score of the given path less the logarithm of the
  total weight of all paths. Times and tags are read modulo their ranges, so that every formula is total.
-/
noncomputable section
open Idealize.ShloMosaic

namespace Cert.Crf

/-- The six arguments at their elements: emissions, tags, lengths, transitions, start and end scores. -/
structure Data where
  lp : Fin 16 → Fin 2048 → Fin 32 → EReal
  tg : Fin 16 → Fin 2048 → BitVec 32
  ln : Fin 16 → BitVec 32
  tr : Fin 32 → Fin 32 → EReal
  st : Fin 32 → EReal
  en : Fin 32 → EReal

/-- What the precondition says: tags and lengths in range, no score `⊤`. -/
structure Data.Ok (D : Data) : Prop where
  tg_lt : ∀ b t, (D.tg b t).toNat < 32
  ln_pos : ∀ b, 1 ≤ (D.ln b).toNat
  ln_le : ∀ b, (D.ln b).toNat ≤ 2048
  lp_lt : ∀ b t j, D.lp b t j < ⊤
  tr_lt : ∀ i j, D.tr i j < ⊤
  st_lt : ∀ j, D.st j < ⊤
  en_lt : ∀ j, D.en j < ⊤

namespace Data
variable (D : Data) (b : Fin 16)

/-- The emission scores at time `u`. -/
def row (u : ℕ) (j : Fin 32) : EReal := D.lp b ⟨u % 2048, Nat.mod_lt _ (by decide)⟩ j
/-- The given tag at time `u`. -/
def tag (u : ℕ) : Fin 32 := ⟨(D.tg b ⟨u % 2048, Nat.mod_lt _ (by decide)⟩).toNat % 32, Nat.mod_lt _ (by decide)⟩
/-- The length of sequence `b`. -/
def len : ℕ := (D.ln b).toNat
/-- The transition weights. -/
def E (i j : Fin 32) : ℝ := ex (D.tr i j)
/-- The emission weights. -/
def p (u : ℕ) (j : Fin 32) : ℝ := ex (D.row b u j)
/-- The weights at time zero. -/
def a0 (j : Fin 32) : ℝ := ex (D.st j) * D.p b 0 j
/-- The forward weights of sequence `b`. -/
def fw (u : ℕ) (j : Fin 32) : ℝ := fwd D.E (D.p b) (D.a0 b) (D.len b) u j
/-- The chunk products of sequence `b`. -/
def ch (c s : ℕ) (i j : Fin 32) : ℝ := chunk D.E (D.p b) (D.len b) shiftC c s i j

/-- The emission score of the given tag at time `u`, within the length. -/
def emAt (u : ℕ) : EReal := if u < D.len b then D.row b u (D.tag b u) else 0
/-- The transition score into time `u + 1` of the given path, within the length. -/
def trAt (u : ℕ) : EReal := if u + 1 < D.len b then D.tr (D.tag b u) (D.tag b (u + 1)) else 0

/-- The score of the given path. -/
def score : EReal :=
  D.st (D.tag b 0) + ∑ u ∈ Finset.range 2048, D.emAt b u + ∑ u ∈ Finset.range 2047, D.trAt b u + D.en (D.tag b (D.len b - 1))

/-- The logarithm of the total weight of all paths. -/
def logZ : EReal := elog (∑ j, D.fw b 2047 j * ex (D.en j))

/-- The result at sequence `b`. -/
def result : EReal := D.score b - D.logZ b

variable {D}

/-- Emissions stay below `⊤`. -/
theorem Ok.row_lt (h : D.Ok) (b : Fin 16) (u : ℕ) (j : Fin 32) : D.row b u j < ⊤ := h.lp_lt _ _ _

/-- The forward weights are not negative. -/
theorem fw_nonneg (b : Fin 16) (u : ℕ) (j : Fin 32) : 0 ≤ D.fw b u j :=
  fwd_nonneg _ _ _ _ (fun _ _ => ex_nonneg _) (fun _ _ => ex_nonneg _) (fun _ => mul_nonneg (ex_nonneg _) (ex_nonneg _)) u j

/-- A chunk's product has no negative entry. -/
theorem fw_zero (b : Fin 16) (j : Fin 32) : D.fw b 0 j = ex (D.st j) * ex (D.row b 0 j) := by simp [fw, fwd, a0, p]

/-- One step of the forward weights. -/
theorem fw_succ (b : Fin 16) (u : ℕ) (j : Fin 32) : D.fw b (u + 1) j
    = if u + 1 < D.len b then (∑ i, D.fw b u i * D.E i j) * D.p b (u + 1) j else D.fw b u j := by simp only [fw, fwd]

/-- One step of a chunk's product. -/
theorem ch_succ (b : Fin 16) (c s : ℕ) (i j : Fin 32) : D.ch b c (s + 1) i j
    = if 32 * c + s + 1 < D.len b then (∑ k, D.ch b c s i k * D.E k j) * (D.p b (32 * c + s + 1) j * Real.exp (-shiftC))
      else D.ch b c s i j := by simp only [ch, chunk]

/-- The empty product is the identity. -/
theorem ch_zero (b : Fin 16) (c : ℕ) (i j : Fin 32) : D.ch b c 0 i j = if i = j then 1 else 0 := by simp only [ch, chunk]

/-- A chunk's product carries the forward weights over it. -/
theorem ch_fw (b : Fin 16) (c s : ℕ) (j : Fin 32) :
    (∑ i, D.fw b (32 * c) i * D.ch b c s i j) * Real.exp (((min s (D.len b - 1 - 32 * c) : ℕ) : ℝ) * shiftC) = D.fw b (32 * c + s) j :=
  chunk_fwd _ _ _ _ _ _ _ _

/-! ### The kernel's summands, time by time and tag by tag -/

variable (D)
/-- The emission summand the kernel adds at tag `j` in the step into time `u + 1`. -/
def emT (u : ℕ) (j : Fin 32) : EReal :=
  D.row b (u + 1) j * (if D.tag b (u + 1) = j then 1 else 0) * (if u + 1 < D.len b then 1 else 0)
/-- The transition summand the kernel adds at tag `j` in the step into time `u + 1`. -/
def trT (u : ℕ) (j : Fin 32) : EReal :=
  (∑ x, (if D.tag b u = x then 1 else 0) * D.tr x j) * (if D.tag b (u + 1) = j then 1 else 0) * (if u + 1 < D.len b then 1 else 0)
/-- The mark of the last tag the kernel leaves at tag `j` at time `u`. -/
def enT (u : ℕ) (j : Fin 32) : EReal :=
  (if D.tag b u = j then 1 else 0) * (if u = D.len b - 1 then 1 else 0)
variable {D}

/-- A sum against a one-hot row, the mark on the right. -/
theorem sum_onehot_right (f : Fin 32 → EReal) (a : Fin 32) (z : EReal) : ∑ j, f j * (if a = j then 1 else 0) * z = f a * z := by
  rw [Finset.sum_eq_single a]
  · rw [if_pos rfl, mul_one]
  · intro j _ hj; rw [if_neg (Ne.symm hj), mul_zero, zero_mul]
  · exact fun h => absurd (Finset.mem_univ a) h

/-- A sum against a one-hot row, the mark on the left. -/
theorem sum_onehot_left (f : Fin 32 → EReal) (a : Fin 32) : ∑ j, (if a = j then 1 else 0) * f j = f a := by
  rw [Finset.sum_eq_single a]
  · rw [if_pos rfl, one_mul]
  · intro j _ hj; rw [if_neg (Ne.symm hj), zero_mul]
  · exact fun h => absurd (Finset.mem_univ a) h

/-- The emission summands of one step over the tags. -/
theorem sum_emT (u : ℕ) : ∑ j, D.emT b u j = D.emAt b (u + 1) := by
  unfold emT emAt
  rw [sum_onehot_right]
  split
  · rw [mul_one]
  · rw [mul_zero]

/-- The transition summands of one step over the tags. -/
theorem sum_trT (u : ℕ) : ∑ j, D.trT b u j = D.trAt b u := by
  unfold trT trAt
  rw [sum_onehot_right (fun j => ∑ x, (if D.tag b u = x then 1 else 0) * D.tr x j), sum_onehot_left]
  split
  · rw [mul_one]
  · rw [mul_zero]

/-- Times in chunks of 32. -/
theorem sum_chunks (f : ℕ → EReal) (n : ℕ) : ∑ c ∈ Finset.range n, ∑ s ∈ Finset.range 32, f (32 * c + s) = ∑ u ∈ Finset.range (32 * n), f u := by
  induction n with
  | zero => simp
  | succ n ih =>
    rw [Finset.sum_range_succ, ih, Nat.mul_succ, Finset.sum_range_add]

/-- All emission summands: every time but the first. -/
theorem total_emT (h : D.Ok) : ∑ c ∈ Finset.range 64, ∑ s ∈ Finset.range 32, ∑ j, D.emT b (32 * c + s) j + D.row b 0 (D.tag b 0)
    = ∑ u ∈ Finset.range 2048, D.emAt b u := by
  have e : ∀ u, ∑ j, D.emT b u j = D.emAt b (u + 1) := fun u => sum_emT b u
  simp only [e]
  rw [sum_chunks (fun u => D.emAt b (u + 1)) 64, show 32 * 64 = 2047 + 1 from rfl, Finset.sum_range_succ,
    show D.emAt b (2047 + 1) = 0 from if_neg (by have := h.ln_le b; unfold len; omega), add_zero,
    Finset.sum_range_succ' (fun u => D.emAt b u) 2047,
    show D.emAt b 0 = D.row b 0 (D.tag b 0) from if_pos (by have := h.ln_pos b; unfold len; omega)]

/-- All transition summands. -/
theorem total_trT (h : D.Ok) : ∑ c ∈ Finset.range 64, ∑ s ∈ Finset.range 32, ∑ j, D.trT b (32 * c + s) j
    = ∑ u ∈ Finset.range 2047, D.trAt b u := by
  have e : ∀ u, ∑ j, D.trT b u j = D.trAt b u := fun u => sum_trT b u
  simp only [e]
  rw [sum_chunks (fun u => D.trAt b u) 64, show 32 * 64 = 2047 + 1 from rfl, Finset.sum_range_succ,
    show D.trAt b 2047 = 0 from if_neg (by have := h.ln_le b; unfold len; omega), add_zero]

/-- All marks of the last tag against the end scores. -/
theorem total_enT (h : D.Ok) : ∑ c ∈ Finset.range 64, ∑ j, (∑ s ∈ Finset.range 32, D.enT b (32 * c + s) j) * D.en j
    = D.en (D.tag b (D.len b - 1)) := by
  have hl : D.len b - 1 < 2048 := by have := h.ln_le b; have := h.ln_pos b; unfold len; omega
  have e1 : ∀ c j, (∑ s ∈ Finset.range 32, D.enT b (32 * c + s) j)
      = (if c = (D.len b - 1) / 32 then (if D.tag b (D.len b - 1) = j then 1 else 0) else 0) := fun c j => by
    split
    next hc =>
      rw [Finset.sum_eq_single ((D.len b - 1) % 32)]
      · have : 32 * c + (D.len b - 1) % 32 = D.len b - 1 := by omega
        unfold enT; rw [this, if_pos rfl, mul_one]
      · intro s hs hne
        have := Finset.mem_range.mp hs
        unfold enT; rw [if_neg (c := 32 * c + s = D.len b - 1) (by omega), mul_zero]
      · exact fun hh => absurd (Finset.mem_range.mpr (Nat.mod_lt _ (by decide))) hh
    next hc =>
      refine Finset.sum_eq_zero fun s hs => ?_
      have := Finset.mem_range.mp hs
      unfold enT; rw [if_neg (c := 32 * c + s = D.len b - 1) (by omega), mul_zero]
  simp only [e1]
  rw [Finset.sum_eq_single ((D.len b - 1) / 32)]
  · simp only [if_pos]
    exact sum_onehot_left D.en _
  · intro c _ hc
    refine Finset.sum_eq_zero fun j _ => ?_
    rw [if_neg hc, zero_mul]
  · exact fun hh => absurd (Finset.mem_range.mpr (by omega)) hh

/-- A sum over 128 lanes that lives on one group of 32. -/
theorem sum_group (f : Fin 128 → ℝ) (q : ℕ) (hq : q < 4) (hf : ∀ x : Fin 128, x.val / 32 ≠ q → f x = 0) :
    ∑ x, f x = ∑ k : Fin 32, f ⟨q * 32 + k.val, by omega⟩ := by
  rw [Fin.sum_univ_tiles 4 32 rfl f, Finset.sum_eq_single (⟨q, hq⟩ : Fin 4)]
  · intro j _ hj
    refine Finset.sum_eq_zero fun t _ => hf _ ?_
    have : j.val ≠ q := fun h => hj (Fin.ext h)
    show (j.val * 32 + t.val) / 32 ≠ q
    omega
  · exact fun h => absurd (Finset.mem_univ _) h

end Data
end Cert.Crf
-- ==== Proof.Words.lean ====
module

public import proofs.«01_k».proof.Proof.Spec
public import Idealize.ShloMosaic.Lib.ValueIdxCore

@[expose] public section

/-!
  The two programs' integer words, masks and one-hot rows, read as numbers.
-/
noncomputable section
open Idealize.ShloMosaic

namespace Cert.Crf

/-- A loop from 0 by 1 counts. -/
theorem iv_count (k : ℕ) : Scf.iv 0#32 1#32 k = BitVec.ofNat 32 k := by simp [Scf.iv]

/-- Sums of words of naturals. -/
theorem addi_ofNat (a b : ℕ) : IntOp.addi (BitVec.ofNat 32 a) (BitVec.ofNat 32 b) = BitVec.ofNat 32 (a + b) := (BitVec.ofNat_add a b).symm

/-- Scalar sums of words of naturals. -/
theorem saddi_ofNat (a b : ℕ) : Scalar.addi (BitVec.ofNat 32 a) (BitVec.ofNat 32 b) = BitVec.ofNat 32 (a + b) := (BitVec.ofNat_add a b).symm

/-- The signed comparison of small words is that of the naturals. -/
theorem slt_word (n : ℕ) (w : BitVec 32) (hn : n < 2 ^ 31) (hw : w.toNat < 2 ^ 31) :
    IntOp.cmpi .slt (BitVec.ofNat 32 n) w = BitVec.ofBool (decide (n < w.toNat)) := by
  show BitVec.ofBool ((BitVec.ofNat 32 n).slt w) = _
  congr 1
  rw [BitVec.slt_eq_decide, BitVec.toInt_eq_toNat_of_lt (x := w) (by omega),
    BitVec.toInt_eq_toNat_of_lt (x := BitVec.ofNat 32 n) (by rw [BitVec.toNat_ofNat]; omega), BitVec.toNat_ofNat,
    Nat.mod_eq_of_lt (by omega)]
  exact decide_eq_decide.mpr Int.ofNat_lt

/-- The comparison with one less than a positive word. -/
theorem eq_word_pred (n : ℕ) (w : BitVec 32) (hn : n < 2 ^ 31) (h1 : 1 ≤ w.toNat) :
    IntOp.cmpi .eq (BitVec.ofNat 32 n) (IntOp.subi w 1#32) = BitVec.ofBool (decide (n = w.toNat - 1)) := by
  show BitVec.ofBool (BitVec.ofNat 32 n == w - 1#32) = _
  congr 1
  rw [Bool.eq_iff_iff, beq_iff_eq, decide_eq_true_iff, ← BitVec.toNat_inj, BitVec.toNat_ofNat, Nat.mod_eq_of_lt (by omega),
    BitVec.toNat_sub_of_le (by rw [BitVec.le_def]; exact h1)]
  rfl

/-- A truth value as a float. -/
theorem mark (φ : FTy) (b : Bool) : (FloatOps.sitofp φ (BitVec.setWidth 32 (BitVec.ofBool b)) : Ideal φ) = if b = true then (1 : EReal) else 0 := by
  cases b
  · exact congrArg (fun z : ℤ => ((z : ℝ) : EReal)) (show (BitVec.setWidth 32 (BitVec.ofBool false)).toInt = 0 by decide) |>.trans (by simp)
  · exact congrArg (fun z : ℤ => ((z : ℝ) : EReal)) (show (BitVec.setWidth 32 (BitVec.ofBool true)).toInt = 1 by decide) |>.trans (by simp)

/-- A choice by a truth value. -/
theorem select_bool {α : Type} (b : Bool) (x y : α) : Scalar.select (BitVec.ofBool b) x y = if b = true then x else y := by
  cases b <;> rfl

/-- A small word as a float. -/
theorem sitofp_small (φ : FTy) (w : BitVec 32) (h : w.toNat < 2 ^ 31) : (FloatOps.sitofp φ w : Ideal φ) = (((w.toNat : ℕ) : ℝ) : EReal) := by
  show ((w.toInt : ℝ) : EReal) = _
  rw [BitVec.toInt_eq_toNat_of_lt (by omega)]
  rfl

/-- Naturals as floats are equal when the naturals are. -/
theorem nat_float_eq (a b : ℕ) : (((a : ℝ) : EReal) = ((b : ℝ) : EReal)) ↔ a = b := by
  rw [EReal.coe_eq_coe_iff, Nat.cast_inj]

end Cert.Crf
-- ==== Proof.KerStep.lean ====
module

public import proofs.«01_k».proof.Proof.Gen.KernelIdeal.Loops
public import proofs.«01_k».proof.Proof.Words
public import Idealize.ShloMosaic.Lib.Pipeline.ValueKit

@[expose] public section

/-!
  One trip of the kernel's inner loop at the elements of its four accumulators: the chunk products of 512 rows step
  once, and each of the three running sums gains one time's summand.
-/
set_option maxRecDepth 16384
noncomputable section
open Idealize.ShloMosaic Idealize.ShloMosaic.TcCoe Idealize.SL.Sem
namespace Cert.KernelIdeal.Val
open Cert.KernelIdeal Cert.KernelIdeal.Gen Cert.Crf

/-- The chunk that row `r` of half `t` belongs to. -/
def cc (t r : ℕ) : ℕ := 32 * t + r / 16
/-- The sequence that row `r` belongs to. -/
def bb (r : ℕ) : Fin 16 := ⟨r % 16, Nat.mod_lt _ (by decide)⟩
/-- The tag a lane stands for. -/
def ll (l : ℕ) : Fin 32 := ⟨l % 32, Nat.mod_lt _ (by decide)⟩
/-- The starting tag that lane `l` of group `i` stands for. -/
def qq (i : Fin 8) (l : Fin 128) : Fin 32 := ⟨i.val * 4 + l.val / 32, by omega⟩

theorem off2_eq : ∀ (t : Fin k0_t1_loop.trips) (k : Fin k0_t2_loop.trips), k0_off2 t k = ![k.val + 1, 512 * t.val, 0] := by decide +kernel
theorem off3_eq : ∀ (t : Fin k0_t1_loop.trips) (k : Fin k0_t2_loop.trips), k0_off3 t k = ![k.val, 512 * t.val, 0] := by decide +kernel
theorem off4_eq : ∀ (t : Fin k0_t1_loop.trips) (k : Fin k0_t2_loop.trips), k0_off4 t k = ![k.val, 512 * t.val, 0] := by decide +kernel
theorem off1_eq : ∀ (t : Fin k0_t1_loop.trips), k0_off1 t = ![512 * t.val, 0] := by decide +kernel
theorem off5_eq : ∀ (t : Fin k0_t1_loop.trips), k0_off5 t = ![0, 512 * t.val + 16, 0] := by decide +kernel
theorem off6_eq : ∀ (t : Fin k0_t1_loop.trips), k0_off6 t = ![31, 512 * t.val, 0] := by decide +kernel
theorem off7_eq : ∀ (t : Fin k0_t1_loop.trips), k0_off7 t = ![31, 512 * t.val, 0] := by decide +kernel
theorem off8_eq : ∀ (t : Fin k0_t1_loop.trips), k0_off8 t = ![4096 * t.val, 0] := by decide +kernel
theorem off9_eq : ∀ (k : Fin k0_t3_loop.trips), k0_off9 k = ![128 * k.val, 0] := by decide +kernel

/-- The staged emissions: row `p` of slab `s` holds the emissions one past time `s` of its chunk, four times over. -/
def IsEm (D : Data) (x : Vec Ideal S32x1024x128 .bf16) : Prop :=
  ∀ (s : Fin 32) (p : Fin 1024) (l : Fin 128), (x (ix3 s p l) : EReal) = D.row (bb p) (32 * (p.val / 16) + s.val + 1) (ll l)
/-- The staged tags: row `p` of slab `s` holds the tag at time `s` of its chunk. -/
def IsTag (D : Data) (x : Vec Ideal S32x1040x32 .bf16) : Prop :=
  ∀ (s : Fin 32) (p : Fin 1040) (j : Fin 32), p.val < 1024 → (x (ix3 s p j) : EReal) = (((D.tag (bb p) (32 * (p.val / 16) + s.val)).val : ℝ) : EReal)
/-- The staged first times of the chunks. -/
def IsBase (t : ℕ) (x : Vec Ideal S512x128 .i32) : Prop := ∀ (r : Fin 512) (l : Fin 128), x (ix2 r l) = BitVec.ofNat 32 (32 * cc t r)
/-- The staged lengths. -/
def IsLen (D : Data) (x : Vec Ideal S512x128 .i32) : Prop := ∀ (r : Fin 512) (l : Fin 128), x (ix2 r l) = D.ln (bb r)
/-- The lanes' tags. -/
def IsLane (x : FVec Ideal S512x32 .bf16) : Prop := ∀ (r : Fin 512) (j : Fin 32), (x (ix2 r j) : EReal) = ((j.val : ℝ) : EReal)
/-- The transition scores. -/
def IsTr (D : Data) (x : FVec Ideal S32x32 .bf16) : Prop := ∀ (i j : Fin 32), (x (ix2 i j) : EReal) = D.tr i j
/-- The transition weights, four copies down the diagonal. -/
def IsBlk (D : Data) (x : FVec Ideal S128x128 .bf16) : Prop :=
  ∀ (a b : Fin 128), (x (ix2 a b) : EReal) = ((if a.val / 32 = b.val / 32 then D.E (ll a) (ll b) else 0 : ℝ) : EReal)

variable {D : Data}

/-- The chunk products' step, at scalars. -/
theorem step_M (h : D.Ok) (b : Fin 16) (c s : ℕ) (hc : c < 64) (hs : s < 32) (q : Fin 32) (l : Fin 128) (acc w : Fin 128 → EReal) (lpv old : EReal)
    (i8 : Fin 8) (hq : q = qq i8 l)
    (hacc : ∀ x : Fin 128, acc x = ((D.ch b c s (qq i8 x) (ll x) : ℝ) : EReal))
    (hw : ∀ x : Fin 128, w x = ((if x.val / 32 = l.val / 32 then D.E (ll x) (ll l) else 0 : ℝ) : EReal))
    (wd : BitVec 1) (hwd : wd = BitVec.ofBool (decide (32 * c + s + 1 < D.len b)))
    (hlp : lpv = D.row b (32 * c + s + 1) (ll l)) (hold : old = ((D.ch b c s q (ll l) : ℝ) : EReal)) :
    Scalar.select wd ((∑ x, acc x * w x) * Ideal.exp (lpv - Ideal.ofBits .f32 0x4059999A#32)) old
      = ((D.ch b c (s + 1) q (ll l) : ℝ) : EReal) := by
  rw [hwd, select_bool, Data.ch_succ]
  by_cases hv : 32 * c + s + 1 < D.len b
  · rw [if_pos hv, if_pos (decide_eq_true hv), ofBits_shiftC, hlp, exp_sub (h.row_lt b _ _)]
    have e : ∑ x, acc x * w x = ((∑ k, D.ch b c s q k * D.E k (ll l) : ℝ) : EReal) := by
      have : ∀ x, acc x * w x = ((D.ch b c s (qq i8 x) (ll x) * (if x.val / 32 = l.val / 32 then D.E (ll x) (ll l) else 0) : ℝ) : EReal) := fun x => by
        rw [hacc, hw, EReal.coe_mul]
      rw [Finset.sum_congr rfl fun x _ => this x, coe_sum,
        Data.sum_group _ (l.val / 32) (by omega) (fun x hx => by rw [if_neg hx, mul_zero])]
      refine congrArg _ (Finset.sum_congr rfl fun k _ => ?_)
      have h1 : (l.val / 32 * 32 + k.val) / 32 = l.val / 32 := by omega
      have h2 : ll (l.val / 32 * 32 + k.val) = k := Fin.ext (by show (l.val / 32 * 32 + k.val) % 32 = k.val; omega)
      have h3 : qq i8 ⟨l.val / 32 * 32 + k.val, by omega⟩ = q := by rw [hq]; exact Fin.ext (by show i8.val * 4 + (l.val / 32 * 32 + k.val) / 32 = i8.val * 4 + l.val / 32; omega)
      show D.ch b c s (qq i8 ⟨l.val / 32 * 32 + k.val, _⟩) (ll (l.val / 32 * 32 + k.val)) * (if (l.val / 32 * 32 + k.val) / 32 = l.val / 32 then D.E (ll (l.val / 32 * 32 + k.val)) (ll l) else 0) = _
      rw [h3, h2, if_pos h1]
    rw [e, ← EReal.coe_mul]; rfl
  · rw [if_neg hv, if_neg (by rw [decide_eq_false hv]; decide), hold]

/-- The emission summand, at scalars. -/
theorem step_em (b : Fin 16) (u : ℕ) (j : Fin 32) (φ ψ : FTy) (lpv tgv lane : EReal) (bt : Bool) (wd : BitVec 1)
    (hlp : lpv = D.row b (u + 1) j) (hbt : bt = true ↔ tgv = lane) (hlane : lane = ((j.val : ℝ) : EReal))
    (hwd : wd = BitVec.ofBool (decide (u + 1 < D.len b)))
    (ht : u + 1 < D.len b → tgv = (((D.tag b (u + 1)).val : ℝ) : EReal)) :
    (lpv * (FloatOps.sitofp φ (BitVec.setWidth 32 (BitVec.ofBool bt)) : Ideal φ) : EReal)
      * (FloatOps.sitofp ψ (BitVec.setWidth 32 wd) : Ideal ψ) = D.emT b u j := by
  rw [hwd, mark, mark, hlp]
  unfold Data.emT
  by_cases hv : u + 1 < D.len b
  · have : (bt = true) = (D.tag b (u + 1) = j) := by rw [hbt, ht hv, hlane, nat_float_eq, Fin.val_inj]
    simp only [this, decide_eq_true_eq]
  · simp only [hv, decide_false, if_false, mul_zero, Bool.false_eq_true]

/-- The transition summand, at scalars. -/
theorem step_tr (b : Fin 16) (u : ℕ) (j : Fin 32) (φ ψ χ : FTy) (tgv lane : EReal) (bt : Bool) (wd : BitVec 1)
    (tpv lanes w : Fin 32 → EReal) (bp : Fin 32 → Bool)
    (hbt : bt = true ↔ tgv = lane) (hlane : lane = ((j.val : ℝ) : EReal))
    (hwd : wd = BitVec.ofBool (decide (u + 1 < D.len b)))
    (ht : u + 1 < D.len b → tgv = (((D.tag b (u + 1)).val : ℝ) : EReal))
    (hbp : ∀ x, bp x = true ↔ tpv x = lanes x) (hlanes : ∀ x : Fin 32, lanes x = ((x.val : ℝ) : EReal))
    (hp : ∀ x, tpv x = (((D.tag b u).val : ℝ) : EReal)) (hw : ∀ x, w x = D.tr x j) :
    ((∑ x : Fin 32, (FloatOps.sitofp χ (BitVec.setWidth 32 (BitVec.ofBool (bp x))) : Ideal χ) * w x)
      * (FloatOps.sitofp φ (BitVec.setWidth 32 (BitVec.ofBool bt)) : Ideal φ) : EReal)
      * (FloatOps.sitofp ψ (BitVec.setWidth 32 wd) : Ideal ψ) = D.trT b u j := by
  rw [hwd, mark, mark]
  unfold Data.trT
  have e : ∀ x : Fin 32, (FloatOps.sitofp χ (BitVec.setWidth 32 (BitVec.ofBool (bp x))) : Ideal χ) * w x
      = (if D.tag b u = x then (1 : EReal) else 0) * D.tr x j := fun x => by
    have : (bp x = true) = (D.tag b u = x) := by rw [hbp, hp, hlanes, nat_float_eq, Fin.val_inj]
    rw [mark, hw]; simp only [this]
  rw [Finset.sum_congr rfl fun x _ => e x]
  by_cases hv : u + 1 < D.len b
  · have : (bt = true) = (D.tag b (u + 1) = j) := by rw [hbt, ht hv, hlane, nat_float_eq, Fin.val_inj]
    simp only [this, decide_eq_true_eq]
  · simp only [hv, decide_false, if_false, mul_zero, Bool.false_eq_true]

/-- The last tag's mark, at scalars. -/
theorem step_en (b : Fin 16) (u : ℕ) (j : Fin 32) (φ ψ : FTy) (tpv lane : EReal) (bp : Bool) (wd : BitVec 1)
    (hbp : bp = true ↔ tpv = lane) (hlane : lane = ((j.val : ℝ) : EReal))
    (hwd : wd = BitVec.ofBool (decide (u = D.len b - 1))) (hp : tpv = (((D.tag b u).val : ℝ) : EReal)) :
    ((FloatOps.sitofp φ (BitVec.setWidth 32 (BitVec.ofBool bp)) : Ideal φ) : EReal)
      * (FloatOps.sitofp ψ (BitVec.setWidth 32 wd) : Ideal ψ) = D.enT b u j := by
  rw [hwd, mark, mark]
  unfold Data.enT
  have : (bp = true) = (D.tag b u = j) := by rw [hbp, hp, hlane, nat_float_eq, Fin.val_inj]
  simp only [this, decide_eq_true_eq]

/-- The within-length word. -/
theorem valid_word (h : D.Ok) (b : Fin 16) (c : ℕ) (hc : c < 64) (s : ℕ) (hs : s < 32) (w : BitVec 32) (hw : w = D.ln b) :
    IntOp.cmpi .slt (IntOp.addi (BitVec.ofNat 32 (32 * c)) (Scalar.addi (BitVec.ofNat 32 s) 1#32)) w = BitVec.ofBool (decide (32 * c + s + 1 < D.len b)) := by
  have := h.ln_le b
  rw [hw, show (1#32) = BitVec.ofNat 32 1 from rfl, saddi_ofNat, addi_ofNat, slt_word _ _ (by omega) (by omega)]
  rfl

/-- The time of a row, through its chunk. -/
theorem row_time (t r s : ℕ) : 32 * ((512 * t + r) / 16) + s = 32 * cc t r + s := by unfold cc; omega
/-- The sequence of a row, through its half. -/
theorem row_seq (t r : ℕ) : bb (512 * t + r) = bb r := Fin.ext (by show (512 * t + r) % 16 = r % 16; omega)

/-- The staged emissions at a row of a half. -/
theorem IsEm.at {x : Vec Ideal S32x1024x128 .bf16} (h : IsEm D x) (t r s l : ℕ) (s' : Fin 32) (p : Fin 1024) (l' : Fin 128)
    (hs : s'.val = s) (hp : p.val = 512 * t + r) (hl : l'.val = l) : (x (ix3 s' p l') : EReal) = D.row (bb r) (32 * cc t r + s + 1) (ll l) := by
  rw [h, hs, hp, hl, row_time, row_seq]

/-- The staged tags at a row of a half. -/
theorem IsTag.at {x : Vec Ideal S32x1040x32 .bf16} (h : IsTag D x) (t r s : ℕ) (s' : Fin 32) (p : Fin 1040) (l' : Fin 32)
    (hs : s'.val = s) (hp : p.val = 512 * t + r) (hr : 512 * t + r < 1024) : (x (ix3 s' p l') : EReal) = (((D.tag (bb r) (32 * cc t r + s)).val : ℝ) : EReal) := by
  rw [h _ _ _ (by omega), hs, hp, row_time, row_seq]

/-- The last-time word. -/
theorem last_word (h : D.Ok) (b : Fin 16) (c : ℕ) (hc : c < 64) (s : ℕ) (hs : s < 32) (w : BitVec 32) (hw : w = D.ln b) :
    IntOp.cmpi .eq (IntOp.addi (BitVec.ofNat 32 (32 * c)) (BitVec.ofNat 32 s)) (IntOp.subi w 1#32) = BitVec.ofBool (decide (32 * c + s = D.len b - 1)) := by
  rw [hw, addi_ofNat, eq_word_pred _ _ (by omega) (h.ln_pos b)]
  rfl

section
variable  (c : Dev nD) (arg0 : Memref sig .tc .vmem S32x1024x128 .bf16) (harg0 : arg0.IsWhole) (arg1 : Memref sig .tc .vmem S32x1040x32 .bf16) (harg1 : arg1.IsWhole) (arg2 : Memref sig .tc .vmem S16x32 .f32) (harg2 : arg2.IsWhole) (arg3 : Memref sig .tc .vmem S16x1 .i32) (harg3 : arg3.IsWhole) (arg4 : Memref sig .tc .vmem S1024x128 .i32) (harg4 : arg4.IsWhole) (arg5 : Memref sig .tc .vmem S1024x128 .i32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S16x1 .f32) (harg9 : arg9.IsWhole) (arg10 : Memref sig .tc .vmem S8192x128 .bf16) (harg10 : arg10.IsWhole) (v3 : FVec Ideal S32x32 .bf16) (v61 : FVec Ideal S128x128 .bf16) (v110 : FVec Ideal S512x8x128 .bf16) (v112 : FVec Ideal S512x32 .bf16) (c0_i32_38 : BitVec 32) (c1_i32_39 : BitVec 32) (k0_t1 : Fin k0_t1_loop.trips) (v273 : BitVec 32) (v275 : Vec Ideal S512x128 .i32) (v278 : Vec Ideal S512x128 .i32) (x0 : Vec Ideal S32x1024x128 .bf16) (x1 : Vec Ideal S32x1040x32 .bf16) (k : Fin k0_t2_loop.trips)  (acc : FVec Ideal S512x8x128 .bf16 × FVec Ideal S512x32 .f32 × FVec Ideal S512x32 .f32 × FVec Ideal S512x32 .f32)
  (h : D.Ok) (h0 : IsEm D x0) (h1 : IsTag D x1) (hb : IsBase k0_t1 v275) (hl : IsLen D v278) (hj : IsLane v112) (ht : IsTr D v3) (hk : IsBlk D v61)
include h h0 h1 hb hl hj ht hk

/-- The chunk products after one trip. -/
theorem t2_M (r : Fin 512) (i : Fin 8) (l : Fin 128)
   (hM : ∀ x : Fin 128, (acc.1 (ix3 r i x) : EReal) = ((D.ch (bb r) (cc k0_t1 r) k (qq i x) (ll x) : ℝ) : EReal)) :
   (((trip_k0_t2 Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) k).1 acc).1 (ix3 r i l) : EReal) = ((D.ch (bb r) (cc k0_t1 r) (k.val + 1) (qq i l) (ll l) : ℝ) : EReal) := by
  have hk31 : k.val < 31 := k.isLt
  have ht2 : k0_t1.val < 2 := k0_t1.isLt
  have hc : cc k0_t1 r < 64 := by unfold cc; omega
  unfold trip_k0_t2
  dsimp only
  unfold trip_k0_t2.sl.r trip_k0_t2.sl.r_4
  frame_out
  pointwise [k0_pay14, k0_pay10, k0_pay2, k0_pay5, k0_pay11, k0_pay12]
  refine step_M h _ _ _ hc (by omega) _ l _ _ _ _ i rfl hM (fun x => hk x l) _ ?_ ?_ (hM l)
  · rw [hb, iv_count]
    exact valid_word h _ _ hc _ (by omega) _ (hl _ _)
  · refine h0.at _ _ _ _ _ _ _ ?_ ?_ ?_ <;> simp [off3_eq]

/-- The emission sum after one trip. -/
theorem t2_em (r : Fin 512) (j : Fin 32)  :
   (((trip_k0_t2 Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) k).1 acc).2.1 (ix2 r j) : EReal) = acc.2.1 (ix2 r j) + D.emT (bb r) (32 * cc k0_t1 r + k) j := by
  have hk31 : k.val < 31 := k.isLt
  have ht2 : k0_t1.val < 2 := k0_t1.isLt
  have hc : cc k0_t1 r < 64 := by unfold cc; omega
  unfold trip_k0_t2
  dsimp only
  unfold trip_k0_t2.sl.r_1
  frame_out
  pointwise [k0_pay7, k0_pay6, k0_pay5, k0_pay4, k0_pay3, k0_pay2, k0_pay11, k0_pay12]
  refine congrArg (acc.2.1 (ix2 r j) + ·) ?_
  refine step_em _ _ _ _ _ _ _ _ _ _ ?_ decide_eq_true_iff (hj _ _) ?_ fun _ => ?_
  · have : ll j = j := Fin.ext (Nat.mod_eq_of_lt j.isLt)
    rw [← this]
    refine h0.at _ _ _ _ _ _ _ ?_ ?_ ?_ <;> simp [off3_eq, this]
  · rw [hb, iv_count]
    exact valid_word h _ _ hc _ (by omega) _ (hl _ _)
  · exact h1.at _ _ (k.val + 1) _ _ _ (by simp [off2_eq]) (by simp [off2_eq]) (by omega)

/-- The transition sum after one trip. -/
theorem t2_tr (r : Fin 512) (j : Fin 32)  :
   (((trip_k0_t2 Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) k).1 acc).2.2.1 (ix2 r j) : EReal) = acc.2.2.1 (ix2 r j) + D.trT (bb r) (32 * cc k0_t1 r + k) j := by
  have hk31 : k.val < 31 := k.isLt
  have ht2 : k0_t1.val < 2 := k0_t1.isLt
  have hc : cc k0_t1 r < 64 := by unfold cc; omega
  unfold trip_k0_t2
  dsimp only
  unfold trip_k0_t2.sl.r_2
  frame_out
  pointwise [k0_pay8, k0_pay6, k0_pay5, k0_pay4, k0_pay3, k0_pay2, k0_pay11, k0_pay12]
  refine congrArg (acc.2.2.1 (ix2 r j) + ·) ?_
  refine step_tr _ _ _ _ _ _ _ _ _ _ _ _ _ _ decide_eq_true_iff (hj _ _) ?_ (fun _ => ?_) (fun x => decide_eq_true_iff) (fun x => hj r x) (fun x => ?_) (fun x => ht x j)
  · rw [hb, iv_count]
    exact valid_word h _ _ hc _ (by omega) _ (hl _ _)
  · exact h1.at _ _ (k.val + 1) _ _ _ (by simp [off2_eq]) (by simp [off2_eq]) (by omega)
  · exact h1.at _ _ k.val _ _ _ (by simp [off4_eq]) (by simp [off4_eq]) (by omega)

/-- The last tag's marks after one trip. -/
theorem t2_en (r : Fin 512) (j : Fin 32)  :
   (((trip_k0_t2 Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) k).1 acc).2.2.2 (ix2 r j) : EReal) = acc.2.2.2 (ix2 r j) + D.enT (bb r) (32 * cc k0_t1 r + k) j := by
  have hk31 : k.val < 31 := k.isLt
  have ht2 : k0_t1.val < 2 := k0_t1.isLt
  have hc : cc k0_t1 r < 64 := by unfold cc; omega
  unfold trip_k0_t2
  dsimp only
  unfold trip_k0_t2.sl.r_3
  frame_out
  pointwise [k0_pay9, k0_pay6, k0_pay5, k0_pay4, k0_pay3, k0_pay2, k0_pay11, k0_pay12]
  refine congrArg (acc.2.2.2 (ix2 r j) + ·) ?_
  refine step_en _ _ _ _ _ _ _ _ _ decide_eq_true_iff (hj _ _) ?_ ?_
  · rw [hb, iv_count]
    exact last_word h _ _ hc _ (by omega) _ (hl _ _)
  · exact h1.at _ _ k.val _ _ _ (by simp [off4_eq]) (by simp [off4_eq]) (by omega)
end
end Cert.KernelIdeal.Val
-- ==== Proof.KerLoop.lean ====
module

public import proofs.«01_k».proof.Proof.KerStep
public import proofs.«01_k».proof.Proof.BodyKernelIdeal

@[expose] public section

/-!
  The kernel's inner loop as a whole, and the trip of its outer loop around it: the chunk products of one half of the
  rows, and what the half adds to the three running sums.
-/
set_option maxRecDepth 16384
noncomputable section
open Idealize.ShloMosaic Idealize.ShloMosaic.TcCoe Idealize.SL.Sem
namespace Cert.KernelIdeal.Val
open Cert.KernelIdeal Cert.KernelIdeal.Gen Cert.Crf

variable {D : Data}
section
variable  (c : Dev nD) (arg0 : Memref sig .tc .vmem S32x1024x128 .bf16) (harg0 : arg0.IsWhole) (arg1 : Memref sig .tc .vmem S32x1040x32 .bf16) (harg1 : arg1.IsWhole) (arg2 : Memref sig .tc .vmem S16x32 .f32) (harg2 : arg2.IsWhole) (arg3 : Memref sig .tc .vmem S16x1 .i32) (harg3 : arg3.IsWhole) (arg4 : Memref sig .tc .vmem S1024x128 .i32) (harg4 : arg4.IsWhole) (arg5 : Memref sig .tc .vmem S1024x128 .i32) (harg5 : arg5.IsWhole) (arg6 : Memref sig .tc .vmem S32x32 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S16x1 .f32) (harg9 : arg9.IsWhole) (arg10 : Memref sig .tc .vmem S8192x128 .bf16) (harg10 : arg10.IsWhole) (v3 : FVec Ideal S32x32 .bf16) (v61 : FVec Ideal S128x128 .bf16) (v110 : FVec Ideal S512x8x128 .bf16) (v112 : FVec Ideal S512x32 .bf16) (c0_i32_38 : BitVec 32) (c1_i32_39 : BitVec 32) (k0_t1 : Fin k0_t1_loop.trips) (v273 : BitVec 32) (v275 : Vec Ideal S512x128 .i32) (v278 : Vec Ideal S512x128 .i32) (x0 : Vec Ideal S32x1024x128 .bf16) (x1 : Vec Ideal S32x1040x32 .bf16)   (init : FVec Ideal S512x8x128 .bf16 × FVec Ideal S512x32 .f32 × FVec Ideal S512x32 .f32 × FVec Ideal S512x32 .f32)
  (h : D.Ok) (h0 : IsEm D x0) (h1 : IsTag D x1) (hb : IsBase k0_t1 v275) (hl : IsLen D v278) (hj : IsLane v112) (ht : IsTr D v3) (hk : IsBlk D v61)
  (hI : ∀ (r : Fin 512) (i : Fin 8) (l : Fin 128), (init.1 (ix3 r i l) : EReal) = ((if qq i l = ll l then 1 else 0 : ℝ) : EReal))
  (hI1 : ∀ (r : Fin 512) (j : Fin 32), (init.2.1 (ix2 r j) : EReal) = 0) (hI2 : ∀ (r : Fin 512) (j : Fin 32), (init.2.2.1 (ix2 r j) : EReal) = 0)
  (hI3 : ∀ (r : Fin 512) (j : Fin 32), (init.2.2.2 (ix2 r j) : EReal) = 0)
include h h0 h1 hb hl hj ht hk hI hI1 hI2 hI3

/-- The four accumulators before trip `n` of the inner loop. -/
theorem t2_inv (n : ℕ) (hn : n ≤ 31) :
    (∀ (r : Fin 512) (i : Fin 8) (l : Fin 128), ((st_k0_t2 Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) init n).1 (ix3 r i l) : EReal) = ((D.ch (bb r) (cc k0_t1 r) n (qq i l) (ll l) : ℝ) : EReal))
    ∧ (∀ (r : Fin 512) (j : Fin 32), ((st_k0_t2 Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) init n).2.1 (ix2 r j) : EReal) = ∑ s ∈ Finset.range n, D.emT (bb r) (32 * cc k0_t1 r + s) j)
    ∧ (∀ (r : Fin 512) (j : Fin 32), ((st_k0_t2 Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) init n).2.2.1 (ix2 r j) : EReal) = ∑ s ∈ Finset.range n, D.trT (bb r) (32 * cc k0_t1 r + s) j)
    ∧ (∀ (r : Fin 512) (j : Fin 32), ((st_k0_t2 Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) init n).2.2.2 (ix2 r j) : EReal) = ∑ s ∈ Finset.range n, D.enT (bb r) (32 * cc k0_t1 r + s) j) := by
  induction n with
  | zero =>
    refine ⟨fun r i l => ?_, fun r j => ?_, fun r j => ?_, fun r j => ?_⟩
    · rw [Data.ch_zero]; exact hI r i l
    · exact hI1 r j
    · exact hI2 r j
    · exact hI3 r j
  | succ n ih =>
    obtain ⟨a1, a2, a3, a4⟩ := ih (by omega)
    have hst := st_k0_t2_succ Variants.none c none arg0 harg0 arg1 harg1 arg2 harg2 arg3 harg3 arg4 harg4 arg5 harg5 arg6 harg6 arg7 harg7 arg8 harg8 arg9 harg9 arg10 harg10 v3 v61 v110 v112 c0_i32_38 c1_i32_39 k0_t1 v273 v275 v278 (harg0.unread x0) (harg1.unread x1) init ⟨n, show n < 31 by omega⟩
    simp only at hst
    rw [hst]
    refine ⟨fun r i l => ?_, fun r j => ?_, fun r j => ?_, fun r j => ?_⟩
    · refine t2_M (h := h) (h0 := h0) (h1 := h1) (hb := hb) (hl := hl) (hj := hj) (ht := ht) (hk := hk) (r := r) (i := i) (l := l) (hM := ?_) ..
      exact fun x => a1 r i x
    · rw [Finset.sum_range_succ, ← a2]
      exact t2_em (h := h) (h0 := h0) (h1 := h1) (hb := hb) (hl := hl) (hj := hj) (ht := ht) (hk := hk) (r := r) (j := j) ..
    · rw [Finset.sum_range_succ, ← a3]
      exact t2_tr (h := h) (h0 := h0) (h1 := h1) (hb := hb) (hl := hl) (hj := hj) (ht := ht) (hk := hk) (r := r) (j := j) ..
    · rw [Finset.sum_range_succ, ← a4]
      exact t2_en (h := h) (h0 := h0) (h1 := h1) (hb := hb) (hl := hl) (hj := hj) (ht := ht) (hk := hk) (r := r) (j := j) ..
end
/-! ### The outer loop's trip -/

/-- The trips of the inner loop. -/
theorem trips2 : Scf.trips (0#32) (Scalar.addi 0#32 31#32) 1#32 = 31 := by decide

/-- The first times of the chunks, whole. -/
def IsBaseW (x : Vec Ideal S1024x128 .i32) : Prop := ∀ (p : Fin 1024) (l : Fin 128), x (ix2 p l) = BitVec.ofNat 32 (32 * (p.val / 16))
/-- The lengths, whole. -/
def IsLenW (D : Data) (x : Vec Ideal S1024x128 .i32) : Prop := ∀ (p : Fin 1024) (l : Fin 128), x (ix2 p l) = D.ln (bb p)

/-- The first times of a half's chunks. -/
theorem IsBaseW.half {x : Vec Ideal S1024x128 .i32} (h : IsBaseW x) (t : ℕ) (p : Fin 1024) (l : Fin 128) (r : ℕ) (hp : p.val = 512 * t + r) :
    x (ix2 p l) = BitVec.ofNat 32 (32 * cc t r) := by rw [h, hp]; congr 2; unfold cc; omega
/-- The lengths of a half's rows. -/
theorem IsLenW.half {x : Vec Ideal S1024x128 .i32} (h : IsLenW D x) (t : ℕ) (p : Fin 1024) (l : Fin 128) (r : ℕ) (hp : p.val = 512 * t + r) :
    x (ix2 p l) = D.ln (bb r) := by rw [h, hp, row_seq]

/-- The last step's within-length word. -/
theorem valid_word' (h : D.Ok) (b : Fin 16) (c : ℕ) (hc : c < 64) (v w : BitVec 32) (hv : v = BitVec.ofNat 32 (32 * c)) (hw : w = D.ln b) :
    IntOp.cmpi .slt (IntOp.addi v 32#32) w = BitVec.ofBool (decide (32 * c + 31 + 1 < D.len b)) := by
  rw [hv]; exact valid_word h b c hc 31 (by decide) w hw
/-- The last step's last-time word. -/
theorem last_word' (h : D.Ok) (b : Fin 16) (c : ℕ) (hc : c < 64) (v w : BitVec 32) (hv : v = BitVec.ofNat 32 (32 * c)) (hw : w = D.ln b) :
    IntOp.cmpi .eq (IntOp.addi v 31#32) (IntOp.subi w 1#32) = BitVec.ofBool (decide (32 * c + 31 = D.len b - 1)) := by
  rw [hv]; exact last_word h b c hc 31 (by decide) w hw

section
variable (c : Dev nD) (arg0 : Memref sig .tc .vmem S32x1024x128 .bf16) (harg0 : arg0.IsWhole) (arg1 : Memref sig .tc .vmem S32x1040x32 .bf16) (harg1 : arg1.IsWhole)
  (arg2 : Memref sig .tc .vmem S16x32 .f32) (harg2 : arg2.IsWhole) (arg3 : Memref sig .tc .vmem S16x1 .i32) (harg3 : arg3.IsWhole)
  (arg4 : Memref sig .tc .vmem S1024x128 .i32) (harg4 : arg4.IsWhole) (arg5 : Memref sig .tc .vmem S1024x128 .i32) (harg5 : arg5.IsWhole)
  (arg6 : Memref sig .tc .vmem S32x32 .f32) (harg6 : arg6.IsWhole) (arg7 : Memref sig .tc .vmem S1x32 .f32) (harg7 : arg7.IsWhole)
  (arg8 : Memref sig .tc .vmem S1x32 .f32) (harg8 : arg8.IsWhole) (arg9 : Memref sig .tc .vmem S16x1 .f32) (harg9 : arg9.IsWhole)
  (arg10 : Memref sig .tc .vmem S8192x128 .bf16) (harg10 : arg10.IsWhole)
  (v3 : FVec Ideal S32x32 .bf16) (v5 : FVec Ideal S1x32 .f32) (v61 : FVec Ideal S128x128 .bf16) (v110 : FVec Ideal S512x8x128 .bf16) (v112 : FVec Ideal S512x32 .bf16)
  (v114 : FVec Ideal S16x32 .f32) (v131 : FVec Ideal S16x1 .f32) (c0_i32_38 c1_i32_39 : BitVec 32)
  (x0 : Vec Ideal S32x1024x128 .bf16) (x1 : Vec Ideal S32x1040x32 .bf16) (x4 x5 : Vec Ideal S1024x128 .i32) (k : Fin k0_t1_loop.trips)
  (h : D.Ok) (h0 : IsEm D x0) (h1 : IsTag D x1) (h4 : IsBaseW x4) (h5 : IsLenW D x5) (hj : IsLane v112) (ht : IsTr D v3) (hk : IsBlk D v61)
  (hI : ∀ (r : Fin 512) (i : Fin 8) (l : Fin 128), (v110 (ix3 r i l) : EReal) = ((if qq i l = ll l then 1 else 0 : ℝ) : EReal))
include h h0 h1 h4 h5 hj ht hk hI

/-- The emission sum after a trip of the outer loop. -/
theorem t1_em (a : FVec Ideal S16x1 .f32 × FVec Ideal S16x1 .f32 × FVec Ideal S16x1 .f32) (b : Fin 16) :
    (((Body.trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) k).1.1 a).1 (ix2 b 0) : EReal) = a.1 (ix2 b 0) + ∑ x : Fin 32, ∑ j : Fin 32, ∑ s ∈ Finset.range 32, D.emT b (32 * (32 * k.val + x.val) + s) j := by
  have ht2 : k.val < 2 := k.isLt
  have hend :=
    t2_inv c arg0 harg0 arg1 harg1 arg2 harg2 arg3 harg3 arg4 harg4 arg5 harg5 arg6 harg6 arg7 harg7 arg8 harg8 arg9 harg9 arg10 harg10 v3 v61 v110 v112 c0_i32_38 c1_i32_39 k
      (Scalar.muli (Scf.iv c0_i32_38 c1_i32_39 k) 512#32) (View.ld x4 (Rect.unit (k0_off1 k) ![512, 128] (by revert k; decide +kernel)))
      (View.ld x5 (Rect.unit (k0_off1 k) ![512, 128] (by revert k; decide +kernel))) x0 x1 (v110, k0_pay13, k0_pay13, k0_pay13) h h0 h1
      (fun r l => by pointwise []; exact h4.half k _ _ r (by simp [off1_eq]))
      (fun r l => by pointwise []; exact h5.half k _ _ r (by simp [off1_eq])) hj ht hk hI
      (fun r j => by pointwise [k0_pay13]) (fun r j => by pointwise [k0_pay13]) (fun r j => by pointwise [k0_pay13]) 31 le_rfl
  unfold Body.trip
  dsimp only
  unfold Body.trip.sl.r_10
  unfold Body.trip.sl.r_6 Body.trip.sl.r_8 Body.trip.sl.r_4
  frame_out
  pointwise [k0_pay22, k0_pay15, k0_pay17, k0_pay19, k0_pay18, k0_pay11, k0_pay12]
  simp only [trips2]
  refine congrArg (a.1 (ix2 b 0) + ·) (Finset.sum_congr rfl fun x _ => Finset.sum_congr rfl fun j _ => ?_)
  have e1 : bb (x.val * 16 + b.val) = b := Fin.ext (by show (x.val * 16 + b.val) % 16 = b.val; omega)
  have e2 : cc k.val (x.val * 16 + b.val) = 32 * k.val + x.val := by unfold cc; omega
  have hc : 32 * k.val + x.val < 64 := by omega
  rw [Finset.sum_range_succ]
  refine congrArg₂ (· + ·) ?_ ?_
  · have := hend.2.1 ⟨x.val * 16 + b.val, by omega⟩ j
    simp only [e1, e2] at this
    exact this
  · refine step_em _ _ _ _ _ _ _ _ _ _ ?_ decide_eq_true_iff (hj _ _) ?_ fun hv => ?_
    · have : ll j = j := Fin.ext (Nat.mod_eq_of_lt j.isLt)
      have := h0.at k.val (x.val * 16 + b.val) 31 j.val ⟨k0_off6 k 0, by simp [off6_eq]⟩ ⟨k0_off6 k 1 + (x.val * 16 + b.val), by simp [off6_eq]; omega⟩ ⟨k0_off6 k 2 + j.val, by simp [off6_eq]; omega⟩ (by simp [off6_eq]) (by simp [off6_eq]) (by simp [off6_eq])
      rw [e1, e2, ‹ll j = j›] at this
      exact this
    · exact valid_word' h b _ hc _ _ ((h4.half k _ _ (x.val * 16 + b.val) (by simp [off1_eq])).trans (by rw [e2])) ((h5.half k _ _ (x.val * 16 + b.val) (by simp [off1_eq])).trans (by rw [e1]))
    · have hc63 : 32 * k.val + x.val < 63 := by have := h.ln_le b; unfold Data.len at hv; omega
      have := h1.at k.val (x.val * 16 + b.val + 16) 0 ⟨k0_off5 k 0, by simp [off5_eq]⟩ ⟨k0_off5 k 1 + (x.val * 16 + b.val), by simp [off5_eq]; omega⟩ ⟨k0_off5 k 2 + j.val, by simp [off5_eq]⟩ (by simp [off5_eq]) (by simp [off5_eq]; omega) (by omega)
      rw [show bb (x.val * 16 + b.val + 16) = b from Fin.ext (by show (x.val * 16 + b.val + 16) % 16 = b.val; omega),
        show 32 * cc k.val (x.val * 16 + b.val + 16) + 0 = 32 * (32 * k.val + x.val) + 31 + 1 by unfold cc; omega] at this
      exact this

/-- The transition sum after a trip of the outer loop. -/
theorem t1_tr (a : FVec Ideal S16x1 .f32 × FVec Ideal S16x1 .f32 × FVec Ideal S16x1 .f32) (b : Fin 16) :
    (((Body.trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) k).1.1 a).2.1 (ix2 b 0) : EReal) = a.2.1 (ix2 b 0) + ∑ x : Fin 32, ∑ j : Fin 32, ∑ s ∈ Finset.range 32, D.trT b (32 * (32 * k.val + x.val) + s) j := by
  have ht2 : k.val < 2 := k.isLt
  have hend :=
    t2_inv c arg0 harg0 arg1 harg1 arg2 harg2 arg3 harg3 arg4 harg4 arg5 harg5 arg6 harg6 arg7 harg7 arg8 harg8 arg9 harg9 arg10 harg10 v3 v61 v110 v112 c0_i32_38 c1_i32_39 k
      (Scalar.muli (Scf.iv c0_i32_38 c1_i32_39 k) 512#32) (View.ld x4 (Rect.unit (k0_off1 k) ![512, 128] (by revert k; decide +kernel)))
      (View.ld x5 (Rect.unit (k0_off1 k) ![512, 128] (by revert k; decide +kernel))) x0 x1 (v110, k0_pay13, k0_pay13, k0_pay13) h h0 h1
      (fun r l => by pointwise []; exact h4.half k _ _ r (by simp [off1_eq]))
      (fun r l => by pointwise []; exact h5.half k _ _ r (by simp [off1_eq])) hj ht hk hI
      (fun r j => by pointwise [k0_pay13]) (fun r j => by pointwise [k0_pay13]) (fun r j => by pointwise [k0_pay13]) 31 le_rfl
  unfold Body.trip
  dsimp only
  unfold Body.trip.sl.r_11
  unfold Body.trip.sl.r_5 Body.trip.sl.r_6 Body.trip.sl.r_8
  frame_out
  pointwise [k0_pay23, k0_pay16, k0_pay17, k0_pay19, k0_pay18, k0_pay11, k0_pay12]
  simp only [trips2]
  refine congrArg (a.2.1 (ix2 b 0) + ·) (Finset.sum_congr rfl fun x _ => Finset.sum_congr rfl fun j _ => ?_)
  have e1 : bb (x.val * 16 + b.val) = b := Fin.ext (by show (x.val * 16 + b.val) % 16 = b.val; omega)
  have e2 : cc k.val (x.val * 16 + b.val) = 32 * k.val + x.val := by unfold cc; omega
  have hc : 32 * k.val + x.val < 64 := by omega
  rw [Finset.sum_range_succ]
  refine congrArg₂ (· + ·) ?_ ?_
  · have := hend.2.2.1 ⟨x.val * 16 + b.val, by omega⟩ j
    simp only [e1, e2] at this
    exact this
  · refine step_tr _ _ _ _ _ _ _ _ _ _ _ _ _ _ decide_eq_true_iff (hj _ _) ?_ (fun hv => ?_) (fun x => decide_eq_true_iff) (fun x => hj _ x) (fun y => ?_) (fun x => ht x j)
    · exact valid_word' h b _ hc _ _ ((h4.half k _ _ (x.val * 16 + b.val) (by simp [off1_eq])).trans (by rw [e2])) ((h5.half k _ _ (x.val * 16 + b.val) (by simp [off1_eq])).trans (by rw [e1]))
    · have hc63 : 32 * k.val + x.val < 63 := by have := h.ln_le b; unfold Data.len at hv; omega
      have := h1.at k.val (x.val * 16 + b.val + 16) 0 ⟨k0_off5 k 0, by simp [off5_eq]⟩ ⟨k0_off5 k 1 + (x.val * 16 + b.val), by simp [off5_eq]; omega⟩ ⟨k0_off5 k 2 + j.val, by simp [off5_eq]⟩ (by simp [off5_eq]) (by simp [off5_eq]; omega) (by omega)
      rw [show bb (x.val * 16 + b.val + 16) = b from Fin.ext (by show (x.val * 16 + b.val + 16) % 16 = b.val; omega),
        show 32 * cc k.val (x.val * 16 + b.val + 16) + 0 = 32 * (32 * k.val + x.val) + 31 + 1 by unfold cc; omega] at this
      exact this
    · have := h1.at k.val (x.val * 16 + b.val) 31 ⟨k0_off7 k 0, by simp [off7_eq]⟩ ⟨k0_off7 k 1 + (x.val * 16 + b.val), by simp [off7_eq]; omega⟩ ⟨k0_off7 k 2 + y.val, by simp [off7_eq]⟩ (by simp [off7_eq]) (by simp [off7_eq]) (by omega)
      rw [e1, e2] at this
      exact this

/-- The end score's sum after a trip of the outer loop. -/
theorem t1_en (hv5 : ∀ j : Fin 32, (v5 (ix2 0 j) : EReal) = D.en j) (a : FVec Ideal S16x1 .f32 × FVec Ideal S16x1 .f32 × FVec Ideal S16x1 .f32) (b : Fin 16) :
    (((Body.trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) k).1.1 a).2.2 (ix2 b 0) : EReal) = a.2.2 (ix2 b 0) + ∑ x : Fin 32, ∑ j : Fin 32, (∑ s ∈ Finset.range 32, D.enT b (32 * (32 * k.val + x.val) + s) j) * D.en j := by
  have ht2 : k.val < 2 := k.isLt
  have hend :=
    t2_inv c arg0 harg0 arg1 harg1 arg2 harg2 arg3 harg3 arg4 harg4 arg5 harg5 arg6 harg6 arg7 harg7 arg8 harg8 arg9 harg9 arg10 harg10 v3 v61 v110 v112 c0_i32_38 c1_i32_39 k
      (Scalar.muli (Scf.iv c0_i32_38 c1_i32_39 k) 512#32) (View.ld x4 (Rect.unit (k0_off1 k) ![512, 128] (by revert k; decide +kernel)))
      (View.ld x5 (Rect.unit (k0_off1 k) ![512, 128] (by revert k; decide +kernel))) x0 x1 (v110, k0_pay13, k0_pay13, k0_pay13) h h0 h1
      (fun r l => by pointwise []; exact h4.half k _ _ r (by simp [off1_eq]))
      (fun r l => by pointwise []; exact h5.half k _ _ r (by simp [off1_eq])) hj ht hk hI
      (fun r j => by pointwise [k0_pay13]) (fun r j => by pointwise [k0_pay13]) (fun r j => by pointwise [k0_pay13]) 31 le_rfl
  unfold Body.trip
  dsimp only
  unfold Body.trip.sl.r_12 Body.trip.sl.r_5 Body.trip.sl.r_9
  frame_out
  pointwise [k0_pay40, k0_pay24, k0_pay16, k0_pay20, k0_pay11, k0_pay12]
  simp only [trips2]
  refine congrArg (a.2.2 (ix2 b 0) + ·) (Finset.sum_congr rfl fun x _ => Finset.sum_congr rfl fun j _ => ?_)
  have e1 : bb (x.val * 16 + b.val) = b := Fin.ext (by show (x.val * 16 + b.val) % 16 = b.val; omega)
  have e2 : cc k.val (x.val * 16 + b.val) = 32 * k.val + x.val := by unfold cc; omega
  have hc : 32 * k.val + x.val < 64 := by omega
  refine congrArg₂ (· * ·) ?_ (hv5 j)
  rw [Finset.sum_range_succ]
  refine congrArg₂ (· + ·) ?_ ?_
  · have := hend.2.2.2 ⟨x.val * 16 + b.val, by omega⟩ j
    simp only [e1, e2] at this
    exact this
  · refine step_en _ _ _ _ _ _ _ _ _ decide_eq_true_iff (hj _ _) ?_ ?_
    · exact last_word' h b _ hc _ _ ((h4.half k _ _ (x.val * 16 + b.val) (by simp [off1_eq])).trans (by rw [e2])) ((h5.half k _ _ (x.val * 16 + b.val) (by simp [off1_eq])).trans (by rw [e1]))
    · have := h1.at k.val (x.val * 16 + b.val) 31 ⟨k0_off7 k 0, by simp [off7_eq]⟩ ⟨k0_off7 k 1 + (x.val * 16 + b.val), by simp [off7_eq]; omega⟩ ⟨k0_off7 k 2 + j.val, by simp [off7_eq]⟩ (by simp [off7_eq]) (by simp [off7_eq]) (by omega)
      rw [e1, e2] at this
      exact this

/-- The piece of the scratch a trip of the outer loop writes: its half's chunk products after 32 steps. -/
theorem t1_piece : ∃ (hh : ∀ a, k0_off8 k a + S4096x128.size a ≤ S8192x128.size a) (v : Vec Ideal S4096x128 .bf16),
    (Body.trip c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) k).1.2 = [⟨Rect.unit (s := S8192x128) (k0_off8 k) S4096x128.size hh, v⟩]
    ∧ ∀ (r : Fin 4096) (l : Fin 128), (v (ix2 r l) : EReal)
        = ((D.ch (bb (r.val / 8)) (cc k (r.val / 8)) 32 (qq ⟨r.val % 8, Nat.mod_lt _ (by decide)⟩ l) (ll l) : ℝ) : EReal) := by
  have ht2 : k.val < 2 := k.isLt
  have hend :=
    t2_inv c arg0 harg0 arg1 harg1 arg2 harg2 arg3 harg3 arg4 harg4 arg5 harg5 arg6 harg6 arg7 harg7 arg8 harg8 arg9 harg9 arg10 harg10 v3 v61 v110 v112 c0_i32_38 c1_i32_39 k
      (Scalar.muli (Scf.iv c0_i32_38 c1_i32_39 k) 512#32) (View.ld x4 (Rect.unit (k0_off1 k) ![512, 128] (by revert k; decide +kernel)))
      (View.ld x5 (Rect.unit (k0_off1 k) ![512, 128] (by revert k; decide +kernel))) x0 x1 (v110, k0_pay13, k0_pay13, k0_pay13) h h0 h1
      (fun r l => by pointwise []; exact h4.half k _ _ r (by simp [off1_eq]))
      (fun r l => by pointwise []; exact h5.half k _ _ r (by simp [off1_eq])) hj ht hk hI
      (fun r j => by pointwise [k0_pay13]) (fun r j => by pointwise [k0_pay13]) (fun r j => by pointwise [k0_pay13]) 31 le_rfl
  unfold Body.trip
  refine ⟨_, _, rfl, fun r l => ?_⟩
  have hr8 : r.val / 8 < 512 := by omega
  have hc : cc k.val (r.val / 8) < 64 := by unfold cc; omega
  unfold Body.trip.sl.r Body.trip.sl.r_4 Body.trip.sl.r_7
  frame_out
  pointwise [k0_pay21, k0_pay15, k0_pay18, k0_pay11, k0_pay12]
  simp only [trips2]
  refine step_M h _ _ 31 hc (by omega) _ l _ _ _ _ ⟨r.val % 8, Nat.mod_lt _ (by decide)⟩ rfl (fun x => hend.1 ⟨r.val / 8, hr8⟩ ⟨r.val % 8, Nat.mod_lt _ (by decide)⟩ x) (fun x => hk x l) _ ?_ ?_ (hend.1 ⟨r.val / 8, hr8⟩ ⟨r.val % 8, Nat.mod_lt _ (by decide)⟩ l)
  · exact valid_word' h _ _ hc _ _ (h4.half k _ _ (r.val / 8) (by simp [off1_eq])) (h5.half k _ _ (r.val / 8) (by simp [off1_eq]))
  · refine h0.at k.val (r.val / 8) 31 l.val _ _ _ ?_ ?_ ?_ <;> simp [off6_eq]
end
end Cert.KernelIdeal.Val
-- ==== Proof.KerFold.lean ====
module

public import proofs.«01_k».proof.Proof.KerLoop

@[expose] public section

/-!
  The kernel's constants at their elements (masks, the identity, the diagonal of transition weights), and one trip of its
  fold over the chunks.
-/
set_option maxRecDepth 16384
noncomputable section
open Idealize.ShloMosaic Idealize.ShloMosaic.TcCoe Idealize.SL.Sem
namespace Cert.KernelIdeal.Val
open Cert.KernelIdeal Cert.KernelIdeal.Gen Cert.Crf
variable {D : Data}

/-- The floor division of a lane by 32, as the kernel spells it. -/
theorem fdiv32 : ∀ a : Fin 128, Scalar.select (IntOp.andi (IntOp.cmpi CmpIPredicate.ne (IntOp.subi (BitVec.setWidth 32 (IntOp.cmpi CmpIPredicate.sgt (BitVec.ofNat 32 ↑a) 0#32)) (BitVec.setWidth 32 (IntOp.cmpi CmpIPredicate.slt (BitVec.ofNat 32 ↑a) 0#32))) (Scalar.subi (Scalar.extui (Scalar.cmpi CmpIPredicate.sgt 32#32 0#32)) (Scalar.extui (Scalar.cmpi CmpIPredicate.slt 32#32 0#32)))) (IntOp.cmpi CmpIPredicate.ne (IntOp.remsi ArithUnit.vector (BitVec.ofNat 32 ↑a) 32#32) 0#32)) (IntOp.subi (IntOp.divsi ArithUnit.vector (BitVec.ofNat 32 ↑a) 32#32) 1#32) (IntOp.divsi ArithUnit.vector (BitVec.ofNat 32 ↑a) 32#32) = BitVec.ofNat 32 (a.val / 32) := by decide +kernel
/-- The floor division of a tag by 4, as the kernel spells it. -/
theorem fdiv4 : ∀ a : Fin 32, Scalar.select (IntOp.andi (IntOp.cmpi CmpIPredicate.ne (IntOp.subi (BitVec.setWidth 32 (IntOp.cmpi CmpIPredicate.sgt (BitVec.ofNat 32 ↑a) 0#32)) (BitVec.setWidth 32 (IntOp.cmpi CmpIPredicate.slt (BitVec.ofNat 32 ↑a) 0#32))) (Scalar.subi (Scalar.extui (Scalar.cmpi CmpIPredicate.sgt 4#32 0#32)) (Scalar.extui (Scalar.cmpi CmpIPredicate.slt 4#32 0#32)))) (IntOp.cmpi CmpIPredicate.ne (IntOp.remsi ArithUnit.vector (BitVec.ofNat 32 ↑a) 4#32) 0#32)) (IntOp.subi (IntOp.divsi ArithUnit.vector (BitVec.ofNat 32 ↑a) 4#32) 1#32) (IntOp.divsi ArithUnit.vector (BitVec.ofNat 32 ↑a) 4#32) = BitVec.ofNat 32 (a.val / 4) := by decide +kernel
/-- The remainder of a lane by 32, as the kernel spells it. -/
theorem frem32 : ∀ a : Fin 128, Scalar.select (IntOp.andi (IntOp.xori (IntOp.cmpi CmpIPredicate.slt (IntOp.remsi ArithUnit.vector (BitVec.ofNat 32 ↑a) (Scalar.select (Scalar.cmpi CmpIPredicate.eq 32#32 0#32) 1#32 32#32)) 0#32) (Scalar.cmpi CmpIPredicate.slt (Scalar.select (Scalar.cmpi CmpIPredicate.eq 32#32 0#32) 1#32 32#32) 0#32)) (IntOp.cmpi CmpIPredicate.ne (IntOp.remsi ArithUnit.vector (BitVec.ofNat 32 ↑a) (Scalar.select (Scalar.cmpi CmpIPredicate.eq 32#32 0#32) 1#32 32#32)) 0#32)) (IntOp.addi (IntOp.remsi ArithUnit.vector (BitVec.ofNat 32 ↑a) (Scalar.select (Scalar.cmpi CmpIPredicate.eq 32#32 0#32) 1#32 32#32)) (Scalar.select (Scalar.cmpi CmpIPredicate.eq 32#32 0#32) 1#32 32#32)) (IntOp.remsi ArithUnit.vector (BitVec.ofNat 32 ↑a) (Scalar.select (Scalar.cmpi CmpIPredicate.eq 32#32 0#32) 1#32 32#32)) = BitVec.ofNat 32 (a.val % 32) := by decide +kernel
/-- The remainder of a row by 8, as the kernel spells it. -/
theorem frem8 : ∀ a : Fin 128, Scalar.select (IntOp.andi (IntOp.xori (IntOp.cmpi CmpIPredicate.slt (IntOp.remsi ArithUnit.vector (BitVec.ofNat 32 ↑a) (Scalar.select (Scalar.cmpi CmpIPredicate.eq 8#32 0#32) 1#32 8#32)) 0#32) (Scalar.cmpi CmpIPredicate.slt (Scalar.select (Scalar.cmpi CmpIPredicate.eq 8#32 0#32) 1#32 8#32) 0#32)) (IntOp.cmpi CmpIPredicate.ne (IntOp.remsi ArithUnit.vector (BitVec.ofNat 32 ↑a) (Scalar.select (Scalar.cmpi CmpIPredicate.eq 8#32 0#32) 1#32 8#32)) 0#32)) (IntOp.addi (IntOp.remsi ArithUnit.vector (BitVec.ofNat 32 ↑a) (Scalar.select (Scalar.cmpi CmpIPredicate.eq 8#32 0#32) 1#32 8#32)) (Scalar.select (Scalar.cmpi CmpIPredicate.eq 8#32 0#32) 1#32 8#32)) (IntOp.remsi ArithUnit.vector (BitVec.ofNat 32 ↑a) (Scalar.select (Scalar.cmpi CmpIPredicate.eq 8#32 0#32) 1#32 8#32)) = BitVec.ofNat 32 (a.val % 8) := by decide +kernel
/-- The remainder of a tag by 4, as the kernel spells it. -/
theorem frem4 : ∀ a : Fin 32, Scalar.select (IntOp.andi (IntOp.xori (IntOp.cmpi CmpIPredicate.slt (IntOp.remsi ArithUnit.vector (BitVec.ofNat 32 ↑a) (Scalar.select (Scalar.cmpi CmpIPredicate.eq 4#32 0#32) 1#32 4#32)) 0#32) (Scalar.cmpi CmpIPredicate.slt (Scalar.select (Scalar.cmpi CmpIPredicate.eq 4#32 0#32) 1#32 4#32) 0#32)) (IntOp.cmpi CmpIPredicate.ne (IntOp.remsi ArithUnit.vector (BitVec.ofNat 32 ↑a) (Scalar.select (Scalar.cmpi CmpIPredicate.eq 4#32 0#32) 1#32 4#32)) 0#32)) (IntOp.addi (IntOp.remsi ArithUnit.vector (BitVec.ofNat 32 ↑a) (Scalar.select (Scalar.cmpi CmpIPredicate.eq 4#32 0#32) 1#32 4#32)) (Scalar.select (Scalar.cmpi CmpIPredicate.eq 4#32 0#32) 1#32 4#32)) (IntOp.remsi ArithUnit.vector (BitVec.ofNat 32 ↑a) (Scalar.select (Scalar.cmpi CmpIPredicate.eq 4#32 0#32) 1#32 4#32)) = BitVec.ofNat 32 (a.val % 4) := by decide +kernel

/-- Small words are equal when their numbers are. -/
theorem eq_word (a b : ℕ) (ha : a < 2 ^ 32) (hb : b < 2 ^ 32) : IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ← BitVec.toNat_inj, BitVec.toNat_ofNat, BitVec.toNat_ofNat, Nat.mod_eq_of_lt ha, Nat.mod_eq_of_lt hb]

/-- A mark of two numbers' equality. -/
theorem mark_eq (φ : FTy) (a b : ℕ) (ha : a < 2 ^ 32) (hb : b < 2 ^ 32) :
    (FloatOps.sitofp φ (BitVec.setWidth 32 (IntOp.cmpi .eq (BitVec.ofNat 32 a) (BitVec.ofNat 32 b))) : Ideal φ) = if a = b then (1 : EReal) else 0 := by
  rw [eq_word a b ha hb, mark]; simp only [decide_eq_true_eq]

/-- The lanes' tags. -/
theorem lane_at : IsLane (k0_pay34 (F := Ideal)) := fun r j => by
  pointwise [k0_pay34]
  rw [sitofp_small _ _ (by rw [BitVec.toNat_ofNat]; omega), BitVec.toNat_ofNat, Nat.mod_eq_of_lt (by omega)]

/-- The identity the chunk products start from. -/
theorem ident_at (r : Fin 512) (i : Fin 8) (l : Fin 128) :
    (k0_pay33 (F := Ideal) Body.bodyRun.sl.v63 k0_pay32 (ix3 r i l) : EReal) = ((if qq i l = ll l then 1 else 0 : ℝ) : EReal) := by
  unfold Body.bodyRun.sl.v63
  pointwise [k0_pay33, k0_pay32]
  rw [fdiv32 l, frem32 l, show IntOp.muli (BitVec.ofNat 32 i.val) 4#32 = BitVec.ofNat 32 (i.val * 4) from (BitVec.ofNat_mul _ _).symm, addi_ofNat,
    mark_eq _ _ _ (by omega) (by omega)]
  have : (qq i l = ll l) = (i.val * 4 + l.val / 32 = l.val % 32) := by rw [Fin.ext_iff]; rfl
  simp only [this]
  split <;> simp

/-- The tiles of the transition weights. -/
theorem tiles_at (h : D.Ok) (x6 : FVec Ideal S32x32 .f32) (hx : ∀ i j : Fin 32, (x6 (ix2 i j) : EReal) = D.tr i j) (a b : Fin 128) :
    (k0_pay27 (F := Ideal) x6 (ix2 a b) : EReal) = ((D.E (ll a) (ll b) : ℝ) : EReal) := by
  have e : ∀ (u v : Fin 32), u = ll a → v = ll b → Ideal.exp (x6 (ix2 u v)) = ((D.E (ll a) (ll b) : ℝ) : EReal) := fun u v hu hv => by
    subst hu; subst hv; rw [hx, exp_eq (h.tr_lt _ _)]; rfl
  pointwise [k0_pay27]
  split_ifs <;> refine e _ _ (Fin.ext ?_) (Fin.ext ?_) <;> simp only [ll] <;> omega

/-- The transition weights down the diagonal. -/
theorem blk_at (h : D.Ok) (x6 : FVec Ideal S32x32 .f32) (hx : ∀ i j : Fin 32, (x6 (ix2 i j) : EReal) = D.tr i j) :
    IsBlk D (k0_pay31 (F := Ideal) (k0_pay27 x6) (iota Kind.tc S128x128 32 [1] iota_S128x128_d1_w32) k0_pay28 (32#32) k0_pay29 k0_pay30) := fun a b => by
  pointwise [k0_pay31, k0_pay28, k0_pay29, k0_pay30]
  rw [fdiv32 a, fdiv32 b, eq_word _ _ (by omega) (by omega), select_bool, tiles_at h x6 hx]
  simp only [decide_eq_true_eq]
  split <;> simp

/-- The rows' groups of starting tags. -/
theorem grp_at (i : Fin 128) (j : Fin 32) :
    (k0_pay47 (F := Ideal) k0_pay43 k0_pay44 k0_pay45 k0_pay46 (ix2 i j) : EReal) = if i.val % 8 = j.val / 4 then 1 else 0 := by
  pointwise [k0_pay47, k0_pay43, k0_pay44, k0_pay45, k0_pay46]
  rw [frem8 i, fdiv4 j, mark_eq _ _ _ (by omega) (by omega)]

/-- The number of steps taken within a chunk, as a float. -/
theorem nval_at (L : BitVec 32) (h1 : 1 ≤ L.toNat) (h2 : L.toNat ≤ 2048) (k : ℕ) (hk : k < 64) (φ : FTy) :
    (FloatOps.sitofp φ (IntOp.minsi (32#32) (IntOp.maxsi (0#32) (IntOp.subi (IntOp.subi L 1#32) (Scalar.muli (Scf.iv 0#32 1#32 k) 32#32)))) : Ideal φ)
      = (((min 32 (L.toNat - 1 - 32 * k) : ℕ) : ℝ) : EReal) := by
  have e1 : IntOp.subi L 1#32 = BitVec.ofNat 32 (L.toNat - 1) := by
    apply BitVec.eq_of_toNat_eq
    rw [show IntOp.subi L 1#32 = L - 1#32 from rfl, BitVec.toNat_sub_of_le (by rw [BitVec.le_def]; exact h1), BitVec.toNat_ofNat (x := L.toNat - 1), Nat.mod_eq_of_lt (by omega)]
    rfl
  have e2 : Scalar.muli (Scf.iv 0#32 1#32 k) 32#32 = BitVec.ofNat 32 (k * 32) := by rw [iv_count]; exact (BitVec.ofNat_mul _ _).symm
  have e3 : (IntOp.subi (BitVec.ofNat 32 (L.toNat - 1)) (BitVec.ofNat 32 (k * 32))).toInt = ((L.toNat - 1 : ℕ) : ℤ) - ((k * 32 : ℕ) : ℤ) := by
    show (BitVec.ofNat 32 (L.toNat - 1) - BitVec.ofNat 32 (k * 32)).toInt = _
    rw [BitVec.toInt_sub, BitVec.toInt_eq_toNat_of_lt (x := BitVec.ofNat 32 (L.toNat - 1)) (by rw [BitVec.toNat_ofNat]; omega),
      BitVec.toInt_eq_toNat_of_lt (x := BitVec.ofNat 32 (k * 32)) (by rw [BitVec.toNat_ofNat]; omega), BitVec.toNat_ofNat, BitVec.toNat_ofNat,
      Nat.mod_eq_of_lt (by omega), Nat.mod_eq_of_lt (by omega), Int.bmod_eq_of_le (by omega) (by omega)]
  rw [e1, e2]
  generalize IntOp.subi (BitVec.ofNat 32 (L.toNat - 1)) (BitVec.ofNat 32 (k * 32)) = w at e3 ⊢
  have e4 : (IntOp.minsi (32#32) (IntOp.maxsi (0#32) w)).toInt = ((min 32 (L.toNat - 1 - 32 * k) : ℕ) : ℤ) := by
    have z0 : (0#32).toInt = 0 := by decide
    have z32 : (32#32).toInt = 32 := by decide
    unfold IntOp.minsi IntOp.maxsi
    split_ifs with c1 c2 c2 <;> simp only [BitVec.sle, BitVec.slt, z0, z32, e3, decide_eq_true_eq] at * <;> omega
  show (((IntOp.minsi (32#32) (IntOp.maxsi (0#32) w)).toInt : ℝ) : EReal) = _
  rw [e4]; rfl

/-- The fold's sums over lanes, groups and tags, through the masks: one sum over the starting tags. -/
theorem fold_sum (e : Fin 32 → EReal) (M : Fin 8 → Fin 128 → EReal) (j : Fin 32) :
    ∑ x : Fin 128, (∑ x1 : Fin 8, (∑ k : Fin 32, e k * (if x1.val = k.val / 4 then 1 else 0) * (if k.val % 4 = x.val / 32 then 1 else 0)) * M x1 x) * (if x.val % 32 = j.val then 1 else 0)
      = ∑ i : Fin 32, e i * M ⟨i.val / 4, by omega⟩ ⟨i.val % 4 * 32 + j.val, by omega⟩ := by
  have e1 : ∀ (x : Fin 128) (x1 : Fin 8), (∑ k : Fin 32, e k * (if x1.val = k.val / 4 then 1 else 0) * (if k.val % 4 = x.val / 32 then (1 : EReal) else 0))
      = e ⟨x1.val * 4 + x.val / 32, by omega⟩ := fun x x1 => by
    rw [Finset.sum_eq_single (⟨x1.val * 4 + x.val / 32, by omega⟩ : Fin 32)]
    · rw [if_pos (by show x1.val = (x1.val * 4 + x.val / 32) / 4; omega), if_pos (by show (x1.val * 4 + x.val / 32) % 4 = x.val / 32; omega), mul_one, mul_one]
    · intro k _ hk
      by_cases h1 : x1.val = k.val / 4
      · rw [if_neg (c := k.val % 4 = x.val / 32) (fun h2 => hk (Fin.ext (by show k.val = x1.val * 4 + x.val / 32; omega))), mul_zero]
      · rw [if_neg h1, mul_zero, zero_mul]
    · exact fun hh => absurd (Finset.mem_univ _) hh
  simp only [e1]
  rw [Fin.sum_univ_tiles 4 32 rfl]
  have e2 : ∀ q : Fin 4, (∑ t : Fin 32, (∑ x1 : Fin 8, e ⟨x1.val * 4 + (q.val * 32 + t.val) / 32, by omega⟩ * M x1 ⟨q.val * 32 + t.val, by omega⟩) * (if (q.val * 32 + t.val) % 32 = j.val then (1 : EReal) else 0))
      = ∑ x1 : Fin 8, e ⟨x1.val * 4 + q.val, by omega⟩ * M x1 ⟨q.val * 32 + j.val, by omega⟩ := fun q => by
    rw [Finset.sum_eq_single j]
    · rw [if_pos (by omega), mul_one]
      refine Finset.sum_congr rfl fun x1 _ => ?_
      congr 2
      exact Fin.ext (by show x1.val * 4 + (q.val * 32 + j.val) / 32 = x1.val * 4 + q.val; omega)
    · intro t _ ht
      rw [if_neg (fun hh => ht (Fin.ext (by omega))), mul_zero]
    · exact fun hh => absurd (Finset.mem_univ _) hh
  refine (Finset.sum_congr rfl fun q _ => e2 q).trans ?_
  rw [Finset.sum_comm, Fin.sum_univ_tiles 8 4 rfl (fun i : Fin 32 => e i * M ⟨i.val / 4, by omega⟩ ⟨i.val % 4 * 32 + j.val, by omega⟩)]
  refine Finset.sum_congr rfl fun x1 _ => Finset.sum_congr rfl fun q _ => ?_
  congr 2
  · exact Fin.ext (by show x1.val = (x1.val * 4 + q.val) / 4; omega)
  · exact Fin.ext (by show q.val * 32 + j.val = (x1.val * 4 + q.val) % 4 * 32 + j.val; omega)

/-- One trip of the fold: the forward weights of the next chunk. -/
theorem fold_step (h : D.Ok) (v136 : IVec S16x1 32) (k : Fin k0_t3_loop.trips) (al : FVec Ideal S16x32 .f32) (M : FVec Ideal S128x128 .bf16)
    (hl : ∀ b : Fin 16, v136 (ix2 b 0) = D.ln b)
    (hal : ∀ (b : Fin 16) (j : Fin 32), (al (ix2 b j) : EReal) = elog (D.fw b (32 * k.val) j))
    (hM : ∀ (b : Fin 16) (i : Fin 8) (l : Fin 128), (M (ix2 ⟨b.val * 8 + i.val, by omega⟩ l) : EReal) = ((D.ch b k 32 (qq i l) (ll l) : ℝ) : EReal))
    (b : Fin 16) (j : Fin 32) :
    (k0_pay52 (F := Ideal) v136 (k0_pay47 k0_pay43 k0_pay44 k0_pay45 k0_pay46) k0_pay48 k0_pay49 k0_pay50 k0_pay51 0#32 k al M (ix2 b j) : EReal)
      = elog (D.fw b (32 * (k.val + 1)) j) := by
  have hk : k.val < 64 := k.isLt
  pointwise [k0_pay52, k0_pay48, k0_pay49, k0_pay50, k0_pay51]
  simp only [fdiv32, frem32, frem4, grp_at]
  have m1 : ∀ (x1 : Fin 8) (kk : Fin 32), ((if (b.val * 8 + x1.val) % 8 = kk.val / 4 then (1 : EReal) else 0)) = if x1.val = kk.val / 4 then 1 else 0 := fun x1 kk => by
    rw [show (b.val * 8 + x1.val) % 8 = x1.val by omega]
  have m2 : ∀ (kk : Fin 32) (x : Fin 128), (FloatOps.sitofp FTy.f32 (BitVec.setWidth 32 (IntOp.cmpi .eq (BitVec.ofNat 32 (kk.val % 4)) (BitVec.ofNat 32 (x.val / 32)))) : Ideal .f32)
      = if kk.val % 4 = x.val / 32 then (1 : EReal) else 0 := fun kk x => mark_eq _ _ _ (by omega) (by omega)
  have m3 : ∀ (x : Fin 128), (FloatOps.sitofp FTy.f32 (BitVec.setWidth 32 (IntOp.cmpi .eq (BitVec.ofNat 32 (x.val % 32)) (BitVec.ofNat 32 j.val))) : Ideal .f32)
      = if x.val % 32 = j.val then (1 : EReal) else 0 := fun x => mark_eq _ _ _ (by omega) (by omega)
  simp only [m1, m2, m3]
  rw [fold_sum (fun kk => Ideal.exp (al (ix2 b kk) - Finset.fold max (Ideal.ofBits FTy.f32 4286578688#32) (fun x => al (ix2 b x)) Finset.univ)) (fun x1 x => M (ix2 ⟨b.val * 8 + x1.val, by omega⟩ x)) j]
  have hM' : ∀ i : Fin 32, (M (ix2 ⟨b.val * 8 + i.val / 4, by omega⟩ ⟨i.val % 4 * 32 + j.val, by omega⟩) : EReal) = ((D.ch b k 32 i j : ℝ) : EReal) := fun i => by
    rw [hM b ⟨i.val / 4, by omega⟩ ⟨i.val % 4 * 32 + j.val, by omega⟩]
    rw [show qq ⟨i.val / 4, by omega⟩ ⟨i.val % 4 * 32 + j.val, by omega⟩ = i from Fin.ext (by show i.val / 4 * 4 + (i.val % 4 * 32 + j.val) / 32 = i.val; omega),
      show ll ((⟨i.val % 4 * 32 + j.val, by omega⟩ : Fin 128).val) = j from Fin.ext (by show (i.val % 4 * 32 + j.val) % 32 = j.val; omega)]
  simp only [hM']
  rw [ofBits_ninf, lse_max (fun x => al (ix2 b x)) (fun x => by rw [hal]; exact elog_lt_top _) (fun i => D.ch b k 32 i j),
    hl, nval_at _ (h.ln_pos b) (h.ln_le b) _ hk, ofBits_shiftC]
  simp only [hal]
  rw [← EReal.coe_mul, ← elog_mul_exp]
  have := Data.ch_fw (D := D) b k.val 32 j
  simp only [ex_elog (Data.fw_nonneg b _ _)]
  exact congrArg elog this
end Cert.KernelIdeal.Val
-- ==== Proof.KerBody.lean ====
module

public import proofs.«01_k».proof.Proof.KerFold
public import Idealize.ShloMosaic.Lib.WritesUnit

@[expose] public section

/-!
  The kernel's body as a whole: the three sums after its outer loop, the scratch it leaves, the fold over the chunks, and
  the result.
-/
set_option maxRecDepth 16384
noncomputable section
open Idealize.ShloMosaic Idealize.ShloMosaic.TcCoe Idealize.SL.Sem
namespace Cert.KernelIdeal.Val
open Cert.KernelIdeal Cert.KernelIdeal.Gen Cert.Crf

variable {D : Data}

/-- The two halves of the chunks put together. -/
theorem halves (f : ℕ → EReal) : ∑ x : Fin 32, f (32 * 0 + x.val) + ∑ x : Fin 32, f (32 * 1 + x.val) = ∑ c ∈ Finset.range 64, f c := by
  rw [show (64 : ℕ) = 32 + 32 from rfl, Finset.sum_range_add, Finset.sum_range, Finset.sum_range]
  simp

/-- Two stores of 4096 rows each, read back: the first below row 4096, the second from there on. -/
theorem pieces_at (M : Memref sig .tc .vmem S8192x128 .bf16) (f : BufTy.Contents (Elt Ideal) M.view.ty) (o1 o0 : Fin 2 → ℕ) (e1 : o1 = ![4096, 0]) (e0 : o0 = ![0, 0])
    (h1 : ∀ a, o1 a + S4096x128.size a ≤ S8192x128.size a) (h0 : ∀ a, o0 a + S4096x128.size a ≤ S8192x128.size a)
    (v1 v0 : Vec Ideal S4096x128 .bf16) (y : Fin 8192) (l : Fin 128) :
    M.view.read (Elt Ideal) (M.view.writes (Elt Ideal) f ([⟨Rect.unit (s := S8192x128) o1 S4096x128.size h1, v1⟩] ++ ([⟨Rect.unit (s := S8192x128) o0 S4096x128.size h0, v0⟩] ++ []))) (ix2 y l)
      = if h : y.val < 4096 then v0 (ix2 ⟨y.val, h⟩ l) else v1 (ix2 ⟨y.val - 4096, by omega⟩ l) := by
  simp only [List.append_nil, List.singleton_append]
  split
  next hy =>
    refine (View.read_writes_cons_unit_of_not_mem (s := S8192x128) _ _ _ _ _ _ e1 0 (Or.inl hy)).trans ?_
    refine View.read_writes_cons_unit_of_mem (s := S8192x128) M.view f h0 v0 [] (ix2 y l) (ix2 ⟨y.val, hy⟩ l) e0 fun a => ?_
    match a with
    | 0 => exact (Nat.zero_add _).symm
    | 1 => exact (Nat.zero_add _).symm
  next hy =>
    refine View.read_writes_cons_unit_of_mem (s := S8192x128) M.view f h1 v1 _ (ix2 y l) (ix2 ⟨y.val - 4096, by omega⟩ l) e1 fun a => ?_
    match a with
    | 0 => show y.val = 4096 + (y.val - 4096); omega
    | 1 => exact (Nat.zero_add _).symm

section
variable (c : Dev nD) (arg0 : Memref sig .tc .vmem S32x1024x128 .bf16) (harg0 : arg0.IsWhole) (arg1 : Memref sig .tc .vmem S32x1040x32 .bf16) (harg1 : arg1.IsWhole)
  (arg2 : Memref sig .tc .vmem S16x32 .f32) (harg2 : arg2.IsWhole) (arg3 : Memref sig .tc .vmem S16x1 .i32) (harg3 : arg3.IsWhole)
  (arg4 : Memref sig .tc .vmem S1024x128 .i32) (harg4 : arg4.IsWhole) (arg5 : Memref sig .tc .vmem S1024x128 .i32) (harg5 : arg5.IsWhole)
  (arg6 : Memref sig .tc .vmem S32x32 .f32) (harg6 : arg6.IsWhole) (arg7 : Memref sig .tc .vmem S1x32 .f32) (harg7 : arg7.IsWhole)
  (arg8 : Memref sig .tc .vmem S1x32 .f32) (harg8 : arg8.IsWhole) (arg9 : Memref sig .tc .vmem S16x1 .f32) (harg9 : arg9.IsWhole)
  (arg10 : Memref sig .tc .vmem S8192x128 .bf16) (harg10 : arg10.IsWhole)
  (v3 : FVec Ideal S32x32 .bf16) (v5 : FVec Ideal S1x32 .f32) (v61 : FVec Ideal S128x128 .bf16) (v110 : FVec Ideal S512x8x128 .bf16) (v112 : FVec Ideal S512x32 .bf16)
  (v114 : FVec Ideal S16x32 .f32) (v131 : FVec Ideal S16x1 .f32) (c0_i32_38 c1_i32_39 : BitVec 32)
  (x0 : Vec Ideal S32x1024x128 .bf16) (x1 : Vec Ideal S32x1040x32 .bf16) (x4 x5 : Vec Ideal S1024x128 .i32)
  (h : D.Ok) (h0 : IsEm D x0) (h1 : IsTag D x1) (h4 : IsBaseW x4) (h5 : IsLenW D x5) (hj : IsLane v112) (ht : IsTr D v3) (hk : IsBlk D v61)
  (hI : ∀ (r : Fin 512) (i : Fin 8) (l : Fin 128), (v110 (ix3 r i l) : EReal) = ((if qq i l = ll l then 1 else 0 : ℝ) : EReal))
include h h0 h1 h4 h5 hj ht hk hI

/-- The emission sum after the outer loop. -/
theorem total_em (init : FVec Ideal S16x1 .f32 × FVec Ideal S16x1 .f32 × FVec Ideal S16x1 .f32) (b : Fin 16) (hi : (init.1 (ix2 b 0) : EReal) = 0) :
    ((Body.accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init 2).1 (ix2 b 0) : EReal) = ∑ c ∈ Finset.range 64, ∑ s ∈ Finset.range 32, ∑ j, D.emT b (32 * c + s) j := by
  have e1 := Body.accs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init ⟨0, by decide⟩
  have e2 := Body.accs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init ⟨1, by decide⟩
  simp only [Nat.reduceAdd] at e1 e2
  rw [e2, t1_em c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 x0 x1 x4 x5 ⟨1, by decide⟩ h h0 h1 h4 h5 hj ht hk hI, e1, t1_em c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 x0 x1 x4 x5 ⟨0, by decide⟩ h h0 h1 h4 h5 hj ht hk hI, show Body.accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init 0 = init from rfl, hi, zero_add]
  refine (halves fun c => ∑ j : Fin 32, ∑ s ∈ Finset.range 32, D.emT b (32 * c + s) j).trans ?_
  exact Finset.sum_congr rfl fun c _ => Finset.sum_comm

/-- The transition sum after the outer loop. -/
theorem total_tr (init : FVec Ideal S16x1 .f32 × FVec Ideal S16x1 .f32 × FVec Ideal S16x1 .f32) (b : Fin 16) (hi : (init.2.1 (ix2 b 0) : EReal) = 0) :
    ((Body.accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init 2).2.1 (ix2 b 0) : EReal) = ∑ c ∈ Finset.range 64, ∑ s ∈ Finset.range 32, ∑ j, D.trT b (32 * c + s) j := by
  have e1 := Body.accs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init ⟨0, by decide⟩
  have e2 := Body.accs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init ⟨1, by decide⟩
  simp only [Nat.reduceAdd] at e1 e2
  rw [e2, t1_tr c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 x0 x1 x4 x5 ⟨1, by decide⟩ h h0 h1 h4 h5 hj ht hk hI, e1, t1_tr c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 x0 x1 x4 x5 ⟨0, by decide⟩ h h0 h1 h4 h5 hj ht hk hI, show Body.accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init 0 = init from rfl, hi, zero_add]
  refine (halves fun c => ∑ j : Fin 32, ∑ s ∈ Finset.range 32, D.trT b (32 * c + s) j).trans ?_
  exact Finset.sum_congr rfl fun c _ => Finset.sum_comm

/-- The end score's sum after the outer loop. -/
theorem total_en (hv5 : ∀ j : Fin 32, (v5 (ix2 0 j) : EReal) = D.en j) (init : FVec Ideal S16x1 .f32 × FVec Ideal S16x1 .f32 × FVec Ideal S16x1 .f32) (b : Fin 16) (hi : (init.2.2 (ix2 b 0) : EReal) = 0) :
    ((Body.accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init 2).2.2 (ix2 b 0) : EReal) = D.en (D.tag b (D.len b - 1)) := by
  have e1 := Body.accs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init ⟨0, by decide⟩
  have e2 := Body.accs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init ⟨1, by decide⟩
  simp only [Nat.reduceAdd] at e1 e2
  rw [e2, t1_en c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 x0 x1 x4 x5 ⟨1, by decide⟩ h h0 h1 h4 h5 hj ht hk hI hv5, e1, t1_en c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 x0 x1 x4 x5 ⟨0, by decide⟩ h h0 h1 h4 h5 hj ht hk hI hv5, show Body.accs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) init 0 = init from rfl, hi, zero_add]
  refine (halves fun c => ∑ j : Fin 32, (∑ s ∈ Finset.range 32, D.enT b (32 * c + s) j) * D.en j).trans ?_
  exact Data.total_enT b h

/-- The scratch after the outer loop: every chunk's product, eight rows to a sequence. -/
theorem scratch_at (f : BufTy.Contents (Elt Ideal) arg10.view.ty) (y : Fin 8192) (l : Fin 128) :
    (arg10.view.read (Elt Ideal) (arg10.view.writes (Elt Ideal) f (Body.pcs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) 2)) (ix2 y l) : EReal)
      = ((D.ch (bb (y.val / 8)) (y.val / 128) 32 (qq ⟨y.val % 8, Nat.mod_lt _ (by decide)⟩ l) (ll l) : ℝ) : EReal) := by
  have e1 := Body.pcs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) ⟨0, by decide⟩
  have e2 := Body.pcs_succ c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) ⟨1, by decide⟩
  simp only [Nat.reduceAdd] at e1 e2
  obtain ⟨w0, v0, p0, q0⟩ := t1_piece c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 x0 x1 x4 x5 ⟨0, by decide⟩ h h0 h1 h4 h5 hj ht hk hI
  obtain ⟨w1, v1, p1, q1⟩ := t1_piece c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 x0 x1 x4 x5 ⟨1, by decide⟩ h h0 h1 h4 h5 hj ht hk hI
  rw [e2, e1, p0, p1, show Body.pcs c arg0 harg0 arg1 harg1 arg2 harg2 arg3 harg3 arg4 harg4 arg5 harg5 arg6 harg6 arg7 harg7 arg8 harg8 arg9 harg9 arg10 harg10 v3 v5 v61 v110 v112 v114 v131 c0_i32_38 c1_i32_39 (harg0.unread x0) (harg1.unread x1) (harg4.unread x4) (harg5.unread x5) 0 = [] from rfl]
  refine (pieces_at arg10 f _ _ (by rw [off8_eq]; rfl) (by rw [off8_eq]; rfl) w1 w0 v1 v0 y l).trans ?_
  by_cases hy : y.val < 4096
  · rw [dif_pos hy]
    refine (q0 ⟨y.val, hy⟩ l).trans ?_
    have : cc 0 (y.val / 8) = y.val / 128 := by unfold cc; omega
    simp only [this]
  · rw [dif_neg hy]
    refine (q1 ⟨y.val - 4096, by omega⟩ l).trans ?_
    have c1 : cc 1 ((y.val - 4096) / 8) = y.val / 128 := by unfold cc; omega
    have c2 : bb ((y.val - 4096) / 8) = bb (y.val / 8) := Fin.ext (by show (y.val - 4096) / 8 % 16 = y.val / 8 % 16; omega)
    have c3 : (y.val - 4096) % 8 = y.val % 8 := by omega
    simp only [c1, c2, c3]
end

section
variable (c : Dev nD) (arg0 : Memref sig .tc .vmem S32x1024x128 .bf16) (harg0 : arg0.IsWhole) (arg1 : Memref sig .tc .vmem S32x1040x32 .bf16) (harg1 : arg1.IsWhole)
  (arg2 : Memref sig .tc .vmem S16x32 .f32) (harg2 : arg2.IsWhole) (arg3 : Memref sig .tc .vmem S16x1 .i32) (harg3 : arg3.IsWhole)
  (arg4 : Memref sig .tc .vmem S1024x128 .i32) (harg4 : arg4.IsWhole) (arg5 : Memref sig .tc .vmem S1024x128 .i32) (harg5 : arg5.IsWhole)
  (arg6 : Memref sig .tc .vmem S32x32 .f32) (harg6 : arg6.IsWhole) (arg7 : Memref sig .tc .vmem S1x32 .f32) (harg7 : arg7.IsWhole)
  (arg8 : Memref sig .tc .vmem S1x32 .f32) (harg8 : arg8.IsWhole) (arg9 : Memref sig .tc .vmem S16x1 .f32) (harg9 : arg9.IsWhole)
  (arg10 : Memref sig .tc .vmem S8192x128 .bf16) (harg10 : arg10.IsWhole)
  (v5 : FVec Ideal S1x32 .f32) (v127 v130 v133_0 v133_1 : FVec Ideal S16x1 .f32) (v136 : IVec S16x1 32) (v140 : FVec Ideal S16x32 .f32)
  (X : BufTy.Contents (Elt Ideal) arg10.view.ty) (init : FVec Ideal S16x32 .f32)
  (h : D.Ok) (hl : ∀ b : Fin 16, v136 (ix2 b 0) = D.ln b)
  (hX : ∀ (y : Fin 8192) (l : Fin 128), (arg10.view.read (Elt Ideal) X (ix2 y l) : EReal) = ((D.ch (bb (y.val / 8)) (y.val / 128) 32 (qq ⟨y.val % 8, Nat.mod_lt _ (by decide)⟩ l) (ll l) : ℝ) : EReal))
  (hi : ∀ (b : Fin 16) (j : Fin 32), (init (ix2 b j) : EReal) = elog (D.fw b 0 j))
include h hl hX hi

/-- The fold over the chunks: the forward weights, in logarithms. -/
theorem fold_inv (n : ℕ) (hn : n ≤ 64) (b : Fin 16) (j : Fin 32) :
    (st_k0_t3 Variants.none c none arg0 harg0 arg1 harg1 arg2 harg2 arg3 harg3 arg4 harg4 arg5 harg5 arg6 harg6 arg7 harg7 arg8 harg8 arg9 harg9 arg10 harg10 v5 v127 v130 v133_0 v133_1 v136 v140 (k0_pay47 k0_pay43 k0_pay44 k0_pay45 k0_pay46) k0_pay48 k0_pay49 k0_pay50 k0_pay51 0#32 X init n (ix2 b j) : EReal)
      = elog (D.fw b (32 * n) j) := by
  induction n generalizing b j with
  | zero => exact hi b j
  | succ n ih =>
    have hst := st_k0_t3_succ Variants.none c none arg0 harg0 arg1 harg1 arg2 harg2 arg3 harg3 arg4 harg4 arg5 harg5 arg6 harg6 arg7 harg7 arg8 harg8 arg9 harg9 arg10 harg10 v5 v127 v130 v133_0 v133_1 v136 v140 (k0_pay47 k0_pay43 k0_pay44 k0_pay45 k0_pay46) k0_pay48 k0_pay49 k0_pay50 k0_pay51 0#32 X init ⟨n, show n < 64 by omega⟩
    simp only at hst
    rw [hst]
    unfold tripR_k0_t3 trip_k0_t3
    dsimp only
    refine fold_step h _ _ _ _ hl (fun b j => ih (by omega) b j) (fun b i l => ?_) b j
    have hX' := hX ⟨128 * n + (b.val * 8 + i.val), by omega⟩ l
    rw [View.readAt_eq_ld]
    refine Eq.trans ?_ (hX'.trans ?_)
    · refine congrArg (arg10.view.read (Elt Ideal) X) ?_
      funext a
      match a with
      | 0 => exact Fin.ext (by simp [off9_eq, ix2])
      | 1 => exact Fin.ext (by simp [off9_eq, ix2])
    · have c1 : (128 * n + (b.val * 8 + i.val)) / 128 = n := by omega
      have c2 : bb ((128 * n + (b.val * 8 + i.val)) / 8) = b := Fin.ext (by show (128 * n + (b.val * 8 + i.val)) / 8 % 16 = b.val; omega)
      have c3 : (128 * n + (b.val * 8 + i.val)) % 8 = i.val := by omega
      simp only [c1, c2, c3]
end
end Cert.KernelIdeal.Val
-- ==== Proof.KerOut.lean ====
module

public import proofs.«01_k».proof.Proof.KerBody

@[expose] public section

/-!
  The kernel's result: the score less the log of the partition sum.
-/
set_option maxRecDepth 16384
noncomputable section
open Idealize.ShloMosaic Idealize.ShloMosaic.TcCoe Idealize.SL.Sem
namespace Cert.KernelIdeal.Val
open Cert.KernelIdeal Cert.KernelIdeal.Gen Cert.Crf

variable {D : Data}

/-- A one-hot row built from the first tag picks that tag's value. -/
theorem first_pick (h : D.Ok) (b : Fin 16) (f : Fin 32 → EReal) :
    ∑ x : Fin 32, f x * (FloatOps.sitofp FTy.f32 (BitVec.setWidth 32 (IntOp.cmpi .eq (D.tg b 0) (BitVec.ofNat 32 x.val))) : Ideal .f32) = f (D.tag b 0) := by
  have e : ∀ x : Fin 32, (FloatOps.sitofp FTy.f32 (BitVec.setWidth 32 (IntOp.cmpi .eq (D.tg b 0) (BitVec.ofNat 32 x.val))) : Ideal .f32)
      = if D.tag b 0 = x then (1 : EReal) else 0 := fun x => by
    have ht := h.tg_lt b 0
    have e1 : D.tg b 0 = BitVec.ofNat 32 (D.tag b 0).val := by
      apply BitVec.eq_of_toNat_eq
      rw [BitVec.toNat_ofNat, Nat.mod_eq_of_lt (by omega)]
      simp [Data.tag]; omega
    rw [e1, mark_eq _ _ _ (by omega) (by omega)]
    simp only [Fin.ext_iff]
  simp only [e]
  have := Data.sum_onehot_right f (D.tag b 0) 1
  simpa using this

section
variable (c : Dev nD) (arg0 : Memref sig .tc .vmem S32x1024x128 .bf16) (harg0 : arg0.IsWhole) (arg1 : Memref sig .tc .vmem S32x1040x32 .bf16) (harg1 : arg1.IsWhole)
  (arg2 : Memref sig .tc .vmem S16x32 .f32) (harg2 : arg2.IsWhole) (arg3 : Memref sig .tc .vmem S16x1 .i32) (harg3 : arg3.IsWhole)
  (arg4 : Memref sig .tc .vmem S1024x128 .i32) (harg4 : arg4.IsWhole) (arg5 : Memref sig .tc .vmem S1024x128 .i32) (harg5 : arg5.IsWhole)
  (arg6 : Memref sig .tc .vmem S32x32 .f32) (harg6 : arg6.IsWhole) (arg7 : Memref sig .tc .vmem S1x32 .f32) (harg7 : arg7.IsWhole)
  (arg8 : Memref sig .tc .vmem S1x32 .f32) (harg8 : arg8.IsWhole) (arg9 : Memref sig .tc .vmem S16x1 .f32) (harg9 : arg9.IsWhole)
  (arg10 : Memref sig .tc .vmem S8192x128 .bf16) (harg10 : arg10.IsWhole)
  (x0 : Vec Ideal S32x1024x128 .bf16) (x1 : Vec Ideal S32x1040x32 .bf16) (x2 : Vec Ideal S16x32 .f32) (x3 : Vec Ideal S16x1 .i32)
  (x4 x5 : Vec Ideal S1024x128 .i32) (x6 : Vec Ideal S32x32 .f32) (x7 x8 : Vec Ideal S1x32 .f32) (f10 : BufTy.Contents (Elt Ideal) arg10.view.ty)

/-- The transitions read whole. -/
theorem r_at (i j : Fin 32) : Body.bodyRun.sl.r arg6 harg6 x6 (ix2 i j) = x6 (ix2 i j) := by
  unfold Body.bodyRun.sl.r
  frame_out
  pointwise [k0_pay25]

/-- The end scores read whole. -/
theorem r1_at (j : Fin 32) : Body.bodyRun.sl.r_1 arg8 harg8 x8 (ix2 0 j) = x8 (ix2 0 j) := by
  unfold Body.bodyRun.sl.r_1
  frame_out
  pointwise [k0_pay26]

/-- The block-diagonal transition weights, from the transitions read whole. -/
theorem r3_at : Body.bodyRun.sl.r_3 arg6 harg6 x6 = k0_pay31 (F := Ideal) (k0_pay27 x6) (iota Kind.tc S128x128 32 [1] iota_S128x128_d1_w32) k0_pay28 (32#32) k0_pay29 k0_pay30 := by
  unfold Body.bodyRun.sl.r_3
  frame_out

/-- The start score of the first tag. -/
theorem r5_at (b : Fin 16) : (Body.bodyRun.sl.r_5 arg3 harg3 arg7 harg7 x3 x7 (ix2 b 0) : EReal)
    = ∑ x : Fin 32, (x7 (ix2 0 x) : EReal) * (FloatOps.sitofp FTy.f32 (BitVec.setWidth 32 (IntOp.cmpi .eq (x3 (ix2 b 0)) (BitVec.ofNat 32 x.val))) : Ideal .f32) := by
  unfold Body.bodyRun.sl.r_5
  frame_out
  pointwise [k0_pay37, k0_pay36]

/-- The emission of the first tag. -/
theorem r6_at (b : Fin 16) : (Body.bodyRun.sl.r_6 arg2 harg2 arg3 harg3 x2 x3 (ix2 b 0) : EReal)
    = ∑ x : Fin 32, (x2 (ix2 b x) : EReal) * (FloatOps.sitofp FTy.f32 (BitVec.setWidth 32 (IntOp.cmpi .eq (x3 (ix2 b 0)) (BitVec.ofNat 32 x.val))) : Ideal .f32) := by
  unfold Body.bodyRun.sl.r_6
  try unfold Body.bodyRun.sl.r_4
  frame_out
  pointwise [k0_pay38, k0_pay35, k0_pay36]

/-- The lengths, one per row. -/
theorem r10_at (h5 : IsLenW D x5) (b : Fin 16) : Body.bodyRun.sl.r_10 arg5 harg5 x5 (ix2 b 0) = D.ln b := by
  unfold Body.bodyRun.sl.r_10
  frame_out
  pointwise [k0_pay41]
  exact (h5 ⟨b.val, by omega⟩ 0).trans (congrArg D.ln (Fin.ext (by show b.val % 16 = b.val; omega)))

/-- The log-weights of time zero. -/
theorem r11_at (b : Fin 16) (j : Fin 32) : (Body.bodyRun.sl.r_11 arg2 harg2 arg7 harg7 x2 x7 (ix2 b j) : EReal) = x7 (ix2 0 j) + x2 (ix2 b j) := by
  unfold Body.bodyRun.sl.r_11
  try unfold Body.bodyRun.sl.r_4
  frame_out
  pointwise [k0_pay42, k0_pay35]

/-- The value stored, at a row: the score less the logarithm of the total weight. -/
theorem pay53_at (h : D.Ok) (v5 : FVec Ideal S1x32 .f32) (al : FVec Ideal S16x32 .f32) (h5 : ∀ j : Fin 32, (v5 (ix2 0 j) : EReal) = D.en j)
   (b : Fin 16) (ha : ∀ j : Fin 32, (al (ix2 b j) : EReal) = elog (D.fw b (32 * 64) j)) : (k0_pay53 (F := Ideal) v5 al (ix2 b 0) : EReal) = D.logZ b := by
  have e : ∀ j, (al (ix2 b j) : EReal) + v5 (ix2 0 j) = elog (D.fw b 2047 j * ex (D.en j)) := fun j => by
    rw [ha, h5, elog_mul_ex _ (h.en_lt j), show D.fw b (32 * 64) j = D.fw b 2047 j from
      fwd_stop _ _ _ _ 2047 (32 * 64) (by have := h.ln_le b; unfold Data.len; omega) (by decide) j]
  pointwise [k0_pay53]
  simp only [e, ofBits_ninf]
  rw [lse_max_one _ (fun j => elog_lt_top _)]
  unfold Data.logZ
  refine congrArg elog (Finset.sum_congr rfl fun j _ => ex_elog (mul_nonneg (Data.fw_nonneg b _ _) (ex_nonneg _)))

/-- The kernel's result at its one store. -/
theorem body_at (h : D.Ok) (h0 : IsEm D x0) (h1 : IsTag D x1) (h2 : ∀ (b : Fin 16) (j : Fin 32), (x2 (ix2 b j) : EReal) = D.row b 0 j)
    (h3 : ∀ b : Fin 16, x3 (ix2 b 0) = D.tg b 0) (h4 : IsBaseW x4) (h5 : IsLenW D x5) (h6 : ∀ i j : Fin 32, (x6 (ix2 i j) : EReal) = D.tr i j)
    (h7 : ∀ j : Fin 32, (x7 (ix2 0 j) : EReal) = D.st j) (h8 : ∀ j : Fin 32, (x8 (ix2 0 j) : EReal) = D.en j) :
    ∃ (hh : ∀ a, (![0, 0] : Fin 2 → ℕ) a + S16x1.size a ≤ S16x1.size a) (v : Vec Ideal S16x1 .f32),
      (Body.bodyRun c arg0 harg0 arg1 harg1 arg2 harg2 arg3 harg3 arg4 harg4 arg5 harg5 arg6 harg6 arg7 harg7 arg8 harg8 arg9 harg9 arg10 harg10 x0 x1 x2 x3 x4 x5 x6 x7 x8 f10).1 = [⟨Rect.unit (s := S16x1) ![0, 0] S16x1.size hh, v⟩] ∧ ∀ b : Fin 16, (v (ix2 b 0) : EReal) = D.result b := by
  unfold Body.bodyRun
  refine ⟨_, _, rfl, fun b => ?_⟩
  unfold Body.bodyRun.sl.r_9 Body.bodyRun.sl.r_12 Body.bodyRun.sl.r_13 Body.bodyRun.sl.r_7 Body.bodyRun.sl.r_8
  have t1 : Scf.trips k0_t1_loop.lb k0_t1_loop.ub k0_t1_loop.st = 2 := by decide
  have t3 : Scf.trips k0_t3_loop.lb k0_t3_loop.ub k0_t3_loop.st = 64 := by decide
  rw [t1, t3]
  have g3 : IsTr D (Body.bodyRun.sl.r arg6 harg6 x6) := fun i j => by rw [r_at]; exact h6 i j
  have g61 : IsBlk D (Body.bodyRun.sl.r_3 arg6 harg6 x6) := by rw [r3_at]; exact blk_at h x6 h6
  have z : ∀ b : Fin 16, (k0_pay39 (F := Ideal) (ix2 b 0) : EReal) = 0 := fun b => by pointwise [k0_pay39]
  have g8 : ∀ j : Fin 32, (Body.bodyRun.sl.r_1 arg8 harg8 x8 (ix2 0 j) : EReal) = D.en j := fun j => by rw [r1_at]; exact h8 j
  have em := total_em c arg0 harg0 arg1 harg1 arg2 harg2 arg3 harg3 arg4 harg4 arg5 harg5 arg6 harg6 arg7 harg7 arg8 harg8 arg9 harg9 arg10 harg10 (Body.bodyRun.sl.r arg6 harg6 x6) (Body.bodyRun.sl.r_1 arg8 harg8 x8) (Body.bodyRun.sl.r_3 arg6 harg6 x6) (k0_pay33 Body.bodyRun.sl.v63 k0_pay32) k0_pay34 (Body.bodyRun.sl.r_4 arg2 harg2 x2) k0_pay39 (0#32) (1#32) x0 x1 x4 x5 h h0 h1 h4 h5 lane_at g3 g61 (fun r i l => ident_at r i l) (k0_pay39, k0_pay39, k0_pay39) b (z b)
  have tr := total_tr c arg0 harg0 arg1 harg1 arg2 harg2 arg3 harg3 arg4 harg4 arg5 harg5 arg6 harg6 arg7 harg7 arg8 harg8 arg9 harg9 arg10 harg10 (Body.bodyRun.sl.r arg6 harg6 x6) (Body.bodyRun.sl.r_1 arg8 harg8 x8) (Body.bodyRun.sl.r_3 arg6 harg6 x6) (k0_pay33 Body.bodyRun.sl.v63 k0_pay32) k0_pay34 (Body.bodyRun.sl.r_4 arg2 harg2 x2) k0_pay39 (0#32) (1#32) x0 x1 x4 x5 h h0 h1 h4 h5 lane_at g3 g61 (fun r i l => ident_at r i l) (k0_pay39, k0_pay39, k0_pay39) b (z b)
  have en := total_en c arg0 harg0 arg1 harg1 arg2 harg2 arg3 harg3 arg4 harg4 arg5 harg5 arg6 harg6 arg7 harg7 arg8 harg8 arg9 harg9 arg10 harg10 (Body.bodyRun.sl.r arg6 harg6 x6) (Body.bodyRun.sl.r_1 arg8 harg8 x8) (Body.bodyRun.sl.r_3 arg6 harg6 x6) (k0_pay33 Body.bodyRun.sl.v63 k0_pay32) k0_pay34 (Body.bodyRun.sl.r_4 arg2 harg2 x2) k0_pay39 (0#32) (1#32) x0 x1 x4 x5 h h0 h1 h4 h5 lane_at g3 g61 (fun r i l => ident_at r i l) g8 (k0_pay39, k0_pay39, k0_pay39) b (z b)
  pointwise [k0_pay1, k0_pay54]
  rw [em, tr, en, r5_at, r6_at]
  simp only [h3, h2, h7]
  rw [first_pick h b, first_pick h b, Data.total_trT b h, add_assoc (D.st _), add_comm (D.row b 0 _), Data.total_emT b h]
  refine congrArg₂ (· - ·) rfl (pay53_at h _ _ g8 b fun j => ?_)
  refine fold_inv (D := D) c arg0 harg0 arg1 harg1 arg2 harg2 arg3 harg3 arg4 harg4 arg5 harg5 arg6 harg6 arg7 harg7 arg8 harg8 arg9 harg9 arg10 harg10 _ _ _ _ _ _ _ _ _ h (fun b => r10_at arg5 harg5 x5 h5 b) (fun y l => ?_) (fun b j => ?_) 64 le_rfl b j
  · exact scratch_at c arg0 harg0 arg1 harg1 arg2 harg2 arg3 harg3 arg4 harg4 arg5 harg5 arg6 harg6 arg7 harg7 arg8 harg8 arg9 harg9 arg10 harg10 (Body.bodyRun.sl.r arg6 harg6 x6) (Body.bodyRun.sl.r_1 arg8 harg8 x8) (Body.bodyRun.sl.r_3 arg6 harg6 x6) (k0_pay33 Body.bodyRun.sl.v63 k0_pay32) k0_pay34 (Body.bodyRun.sl.r_4 arg2 harg2 x2) k0_pay39 (0#32) (1#32) x0 x1 x4 x5 h h0 h1 h4 h5 lane_at g3 g61 (fun r i l => ident_at r i l) f10 y l
  · rw [r11_at, h7, h2, Data.fw_zero, elog_mul_ex _ (h.row_lt b 0 j), elog_ex (h.st_lt j)]
end
end Cert.KernelIdeal.Val
-- ==== Proof.KerHost.lean ====
module

public import proofs.«01_k».proof.Proof.KerOut
public import Idealize.ShloMosaic.Lib.Pipeline.ValueKit
public import Idealize.ShloMosaic.Lib.StableHlo.ReadAt

@[expose] public section

/-!
  The kernel's operands in terms of the arguments, and its result.
-/
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Crf Cert.KernelIdeal.Val
variable (m : (ℓ : Loc nD τ sig) → Buf (Elt Ideal) ℓ)

/-- Every window is its whole array. -/
theorem idx : ∀ t : Fin cfg0.N, win0_0.index t = ![0,0,0] ∧ win0_1.index t = ![0,0,0] ∧ win0_2.index t = ![0,0]∧ win0_3.index t = ![0,0] ∧ win0_4.index t = ![0,0] ∧ win0_5.index t = ![0,0]
   ∧ win0_6.index t = ![0,0] ∧ win0_7.index t = ![0,0] ∧ win0_8.index t = ![0,0] ∧ win0_9.index t = ![0,0] := (by decide +kernel : ∀ t : Fin grid0.N, _)

/-- Operand 0's block is the whole array. -/
theorem iblk0 (c : Dev nD) (t : Fin cfg0.N) : iblk m c 0 t = V m c main_v9 := by
  blk_ext! [iblk, V, idx t]

/-- Operand 1's block is the whole array. -/
theorem iblk1 (c : Dev nD) (t : Fin cfg0.N) : iblk m c 1 t = V m c main_v15 := by
  blk_ext! [iblk, V, idx t]

/-- Operand 2's block is the whole array. -/
theorem iblk2 (c : Dev nD) (t : Fin cfg0.N) : iblk m c 2 t = V m c main_v28 := by
  blk_ext! [iblk, V, idx t]

/-- Operand 3's block is the whole array. -/
theorem iblk3 (c : Dev nD) (t : Fin cfg0.N) : iblk m c 3 t = V m c main_v29 := by
  blk_ext! [iblk, V, idx t]

/-- Operand 4's block is the whole array. -/
theorem iblk4 (c : Dev nD) (t : Fin cfg0.N) : iblk m c 4 t = V m c main_v21 := by
  blk_ext! [iblk, V, idx t]

/-- Operand 5's block is the whole array. -/
theorem iblk5 (c : Dev nD) (t : Fin cfg0.N) : iblk m c 5 t = V m c main_v26 := by
  blk_ext! [iblk, V, idx t]

/-- Operand 6's block is the whole array. -/
theorem iblk6 (c : Dev nD) (t : Fin cfg0.N) : iblk m c 6 t = V m c main_arg3 := by
  blk_ext! [iblk, V, idx t]

/-- Operand 7's block is the whole array. -/
theorem iblk7 (c : Dev nD) (t : Fin cfg0.N) : iblk m c 7 t = V m c main_v30 := by
  blk_ext! [iblk, V, idx t]

/-- Operand 8's block is the whole array. -/
theorem iblk8 (c : Dev nD) (t : Fin cfg0.N) : iblk m c 8 t = V m c main_v31 := by
  blk_ext! [iblk, V, idx t]

/-- A given tag's value. -/
theorem _root_.Cert.Crf.Data.tag_val {D : Data} (h : D.Ok) (b : Fin 16) (u : ℕ) (hu : u < 2048) : (D.tag b u).val = (D.tg b ⟨u, hu⟩).toNat := by
  have e1 : (⟨u % 2048, Nat.mod_lt _ (by decide)⟩ : Fin 2048) = ⟨u, hu⟩ := Fin.ext (Nat.mod_eq_of_lt hu)
  show (D.tg b ⟨u % 2048, _⟩).toNat % 32 = _
  rw [e1]
  exact Nat.mod_eq_of_lt (h.tg_lt _ _)

/-- A row of emissions. -/
theorem _root_.Cert.Crf.Data.row_eq {D : Data} (b : Fin 16) (u : ℕ) (hu : u < 2048) (j : Fin 32) : D.row b u j = D.lp b ⟨u, hu⟩ j := by
  show D.lp b ⟨u % 2048, _⟩ j = _
  congr 1
  exact Fin.ext (Nat.mod_eq_of_lt hu)

/-- The data of the problem, as the arguments give it. -/
def data (c : Dev nD) : Data where
  lp b u j := (m (c, Proc.tc.devRef main_arg0) : S16x2048x32.Idx → EReal) (ix3 b u j)
  tg b u := (m (c, Proc.tc.devRef main_arg1) : S16x2048.Idx → BitVec 32) (ix2 b u)
  ln b := (m (c, Proc.tc.devRef main_arg2) : S16.Idx → BitVec 32) (ix1 b)
  tr i j := (m (c, Proc.tc.devRef main_arg3) : S32x32.Idx → EReal) (ix2 i j)
  st j := (m (c, Proc.tc.devRef main_arg4) : S32.Idx → EReal) (ix1 j)
  en j := (m (c, Proc.tc.devRef main_arg5) : S32.Idx → EReal) (ix1 j)

/-- Operand 2: the first emissions. -/
theorem v2_at (c : Dev nD) (b : Fin 16) (j : Fin 32) : ((V m c main_v28 : FVec Ideal S16x32 .f32) (ix2 b j) : EReal) = (data m c).row b 0 j := by
  unfold V
  after_reads_at
  rfl

/-- Operand 3: the first tags. -/
theorem v3_at (c : Dev nD) (b : Fin 16) : (V m c main_v29 : IVec S16x1 32) (ix2 b 0) = (data m c).tg b 0 := by
  unfold V
  after_reads_at
  rfl

/-- Operand 7: the start scores. -/
theorem v7_at (c : Dev nD) (j : Fin 32) : ((V m c main_v30 : FVec Ideal S1x32 .f32) (ix2 0 j) : EReal) = (data m c).st j := by
  unfold V
  after_reads_at
  rfl

/-- Operand 8: the end scores. -/
theorem v8_at (c : Dev nD) (j : Fin 32) : ((V m c main_v31 : FVec Ideal S1x32 .f32) (ix2 0 j) : EReal) = (data m c).en j := by
  unfold V
  after_reads_at
  rfl

/-- Operand 6: the transition scores. -/
theorem v6_at (c : Dev nD) (i j : Fin 32) : ((V m c main_arg3 : FVec Ideal S32x32 .f32) (ix2 i j) : EReal) = (data m c).tr i j := by
  unfold V
  after_reads_at
  rfl

/-- Operand 5: the lengths. -/
theorem v5_at (c : Dev nD) : IsLenW (data m c) (V m c main_v26) := fun p l => by
  unfold V
  after_reads_at
  rfl

/-- The first time of a row's chunk, as the kernel spells it. -/
theorem base_word : ∀ p : Fin 1024, IntOp.muli
      (Scalar.select
        (IntOp.andi
          (IntOp.cmpi CmpIPredicate.ne
            (if BitVec.ofNat 32 p.val = 0 then 0 else if (BitVec.ofNat 32 p.val).msb = true then -1 else 1 : BitVec 32)
            (if 16#32 = 0 then 0
            else if BitVec.msb 16#32 = true then -1 else 1))
          (IntOp.cmpi CmpIPredicate.ne
            (IntOp.remsi ArithUnit.host (BitVec.ofNat 32 p.val) 16#32) 0#32))
        (IntOp.subi (IntOp.divsi ArithUnit.host (BitVec.ofNat 32 p.val) 16#32) 1#32)
        (IntOp.divsi ArithUnit.host (BitVec.ofNat 32 p.val) 16#32))
      32#32 =
    BitVec.ofNat 32 (32 * (p.val / 16)) := by decide +kernel

/-- Operand 4: the first times of the chunks. -/
theorem v4_at (c : Dev nD) : IsBaseW (V m c main_v21) := fun p l => by
  unfold V
  after_reads_at
  exact base_word p

/-- Operand 1: the tags, by chunk. -/
theorem v1_at (c : Dev nD) (h : (data m c).Ok) : IsTag (data m c) (V m c main_v15) := fun s p j hp => by
  unfold V
  after_reads_at
  rw [dif_pos hp]
  have hlt := h.tg_lt ⟨p.val % 16, by omega⟩ ⟨p.val / 16 * 32 + s.val, by omega⟩
  show (FloatOps.sitofp FTy.bf16 ((data m c).tg ⟨p.val % 16, by omega⟩ ⟨p.val / 16 * 32 + s.val, by omega⟩) : Ideal .bf16) = _
  rw [sitofp_small _ _ (lt_of_lt_of_le hlt (by decide)), Data.tag_val h (bb p.val) (32 * (p.val / 16) + s.val) (by omega)]
  have e : (⟨p.val / 16 * 32 + s.val, by omega⟩ : Fin 2048) = ⟨32 * (p.val / 16) + s.val, by omega⟩ := Fin.ext (by show p.val / 16 * 32 + s.val = 32 * (p.val / 16) + s.val; omega)
  rw [e]
  rfl

/-- An element of the emissions. -/
theorem lp_eq (c : Dev nD) (b b' : Fin 16) (u u' : Fin 2048) (j j' : Fin 32) (hb : b.val = b'.val) (hu : u.val = u'.val) (hj : j.val = j'.val) :
    (m (c, Proc.tc.devRef main_arg0) : S16x2048x32.Idx → EReal) (ix3 b u j) = (data m c).lp b' u' j' := by
  obtain rfl := Fin.ext hb
  obtain rfl := Fin.ext hu
  obtain rfl := Fin.ext hj
  rfl

/-- A row of emissions, at any time. -/
theorem _root_.Cert.Crf.Data.row_mod {D : Data} (b : Fin 16) (u : ℕ) (j : Fin 32) : D.row b u j = D.lp b ⟨u % 2048, Nat.mod_lt _ (by decide)⟩ j := rfl

/-- Operand 0: the emissions one past each time, by chunk. -/
theorem v0_at (c : Dev nD) : IsEm (data m c) (V m c main_v9) := fun s p l => by
  rw [Data.row_mod]
  unfold V
  after_reads_at
  split
  next hlt =>
    after_reads_at
    exact lp_eq m c _ _ _ _ _ _ rfl (by show 1 + (p.val / 16 * 32 + s.val) = (32 * (p.val / 16) + s.val + 1) % 2048; omega) rfl
  next hge =>
    after_reads_at
    exact lp_eq m c _ _ _ _ _ _ rfl (by show p.val / 16 * 32 + s.val - 2047 = (32 * (p.val / 16) + s.val + 1) % 2048; omega) rfl

/-- What the body leaves in the result's buffer. -/
theorem out_at (c : Dev nD) (h : (data m c).Ok) (b : Fin 16) : (Body.outAt m c t0_0 (ix2 b 0) : EReal) = (data m c).result b := by
  obtain ⟨hh, v, e, q⟩ := body_at (D := data m c) c (Body.ms0 t0_0) (Body.hs0 t0_0) (Body.ms1 t0_0) (Body.hs1 t0_0) (Body.ms2 t0_0) (Body.hs2 t0_0) (Body.ms3 t0_0) (Body.hs3 t0_0) (Body.ms4 t0_0) (Body.hs4 t0_0) (Body.ms5 t0_0) (Body.hs5 t0_0) (Body.ms6 t0_0) (Body.hs6 t0_0) (Body.ms7 t0_0) (Body.hs7 t0_0) (Body.ms8 t0_0) (Body.hs8 t0_0) (Body.ms9 t0_0) (Body.hs9 t0_0) Body.scM (Memref.isWhole_whole _) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) Body.scM.view.junk h
    (by rw [iblk0]; exact v0_at m c) (by rw [iblk1]; exact v1_at m c h) (fun b j => by rw [iblk2]; exact v2_at m c b j) (fun b => by rw [iblk3]; exact v3_at m c b)
    (by rw [iblk4]; exact v4_at m c) (by rw [iblk5]; exact v5_at m c) (fun i j => by rw [iblk6]; exact v6_at m c i j) (fun j => by rw [iblk7]; exact v7_at m c j)
    (fun j => by rw [iblk8]; exact v8_at m c j)
  have e' : Body.runAt m c t0_0 = _ := e
  unfold Body.outAt
  rw [e']
  refine Eq.trans (View.read_writes_cons_unit_of_mem (s := S16x1) _ _ hh v [] (ix2 b 0) (ix2 b 0) rfl fun a => ?_) (q b)
  match a with
  | 0 => exact (Nat.zero_add _).symm
  | 1 => exact (Nat.zero_add _).symm

/-- An index into a column of sixteen. -/
theorem idx16 (i : S16x1.Idx) : i = ix2 (⟨(i 0).val, (i 0).isLt⟩ : Fin 16) (0 : Fin 1) :=
  funext fun a => match a with
    | 0 => rfl
    | 1 => Subsingleton.elim (α := Fin 1) _ _

/-- The result's array after the launch. -/
theorem arr_at (c : Dev nD) (h : (data m c).Ok) : ((Body.dats m 0 c).arrAt 9 cfg0.N : S16x1.Idx → EReal) = fun i => (data m c).result ⟨(i 0).val, (i 0).isLt⟩ := by
  refine (Body.dats m 0 c).arrAt_eq_of_after_last (9 : Fin 10) t0_0 (by decide +kernel) _ fun j => ?_
  rw [Body.after9]
  refine (congrArg (Body.outAt m c t0_0) (idx16 _)).trans ((out_at m c h _).trans ?_)
  refine congrArg (data m c).result (Fin.ext ?_)
  blk_simp

/-- The result after the host's last line. -/
theorem res_at (c : Dev nD) (h : (data m c).Ok) : (Pipeline.afterTail₀ cfgs (Body.dats m) 0 (V0 m) [hostOps1] c main_v33 : S16.Idx → EReal) = fun i => (data m c).result ⟨(i 0).val, (i 0).isLt⟩ := by
  unfold Pipeline.afterTail₀
  funext i
  show StableHlo.after hostOps1 _ (Proc.devRef .tc main_v33) i = _
  after_reads_at
  refine (congrFun (Pipeline.withArrays_arr (cfgs 0).spec (by decide) c _ _ 9) (ix2 (i 0) 0)).trans ?_
  exact congrFun (arr_at m c h) (ix2 (i 0) 0)

/-- The kernel's run: it terminates with the result at the problem's value and the arguments unchanged. -/
theorem run_value (ρ : Dev nD → PrngReg) (h : ∀ c, (data m c).Ok) : θ_run defs (onTc (τ := τ) (main (F := Ideal))) ⟨m, fun _ => 0, ρ⟩ (fun r => ∀ c : Dev nD,
      (r.2.mem ((c.tc : Thread nD τ).loc main_v33) : S16.Idx → EReal) = (fun i => (data m c).result ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r hr c => ⟨(((hr.1 c).2 main_v33 (Pipeline.mem_restRefs_of main_v33 (by decide) (by decide)))).trans (res_at m c (h c)), hr.2.1 c⟩)
    (θ_run_and (Body.run_main m ρ) (Body.frame m ρ))
end Cert.KernelIdeal.Value
-- ==== Proof.RefGather.lean ====
module

public import proofs.«01_k».proof.Proof.RefRun
public import Idealize.ShloMosaic.Lib.Pipeline.ValueKit

@[expose] public section
/-!
  The four gathers of the reference, each read at one index whose start indices lie in range.
-/
set_option maxRecDepth 16384
noncomputable section
open Idealize.ShloMosaic Idealize.ShloMosaic.TcCoe Idealize.SL.Sem
namespace Cert.ReferenceIdeal.Value
open Cert.ReferenceIdeal Cert.ReferenceIdeal.Gen

/-- The word of a number below `2³¹`, read signed. -/
theorem clamp_word (w : BitVec 32) (n N : ℕ) (h : w.toNat = n) (hn : n ≤ N) (hN : N < 2147483648) : min w.toInt.toNat N = n := by
  rw [BitVec.toInt_eq_toNat_of_lt (by omega)]
  simp only [Int.toNat_natCast]
  omega

/-- The potentials gathered at one tag per place. -/
theorem gather_em {α : Type} (x : S16x2048x32.Idx → α) (idx : IVec S16x2048x1x1 32) (b : Fin 16) (u : Fin 2048) (n : Fin 32)
    (h : (idx (ix4 b u 0 0)).toNat = n.val) : Host.gather gather_S16x2048x32_S16x2048x1x1_S16x2048x1_n_2_01_01_2_3_111 x idx (ix3 b u 0) = x (ix3 b u n) := by
  refine congrArg x (funext fun a => Fin.ext ?_)
  match a with
  | 0 => exact Nat.zero_add b.val
  | 1 => exact Nat.zero_add u.val
  | 2 =>
    refine Eq.trans (b := min (idx (ix4 b u 0 0)).toInt.toNat 31) ?_ (clamp_word _ _ _ h (Nat.le_of_lt_succ (Fin.isLt _)) (by omega))
    refine congrArg (fun z => min (idx z).toInt.toNat 31) ?_
    funext k
    match k with
    | 0 => rfl
    | 1 => rfl
    | 2 => rfl
    | 3 => rfl

/-- The transitions gathered at one pair of tags per place. -/
theorem gather_tr {α : Type} (x : S32x32.Idx → α) (idx : IVec S16x2047x2 32) (b : Fin 16) (u : Fin 2047) (i j : Fin 32)
    (hi : (idx (ix3 b u 0)).toNat = i.val) (hj : (idx (ix3 b u 1)).toNat = j.val) :
    Host.gather gather_S32x32_S16x2047x2_S16x2047_n_01_n_n_01_2_11 x idx (ix2 b u) = x (ix2 i j) := by
  refine congrArg x (funext fun a => Fin.ext ?_)
  match a with
  | 0 =>
    refine Eq.trans (b := min (idx (ix3 b u 0)).toInt.toNat 31) ?_ (clamp_word _ _ _ hi (Nat.le_of_lt_succ (Fin.isLt _)) (by omega))
    refine congrArg (fun z => min (idx z).toInt.toNat 31) ?_
    funext k
    match k with
    | 0 => rfl
    | 1 => rfl
    | 2 => rfl
  | 1 =>
    refine Eq.trans (b := min (idx (ix3 b u 1)).toInt.toNat 31) ?_ (clamp_word _ _ _ hj (Nat.le_of_lt_succ (Fin.isLt _)) (by omega))
    refine congrArg (fun z => min (idx z).toInt.toNat 31) ?_
    funext k
    match k with
    | 0 => rfl
    | 1 => rfl
    | 2 => rfl

/-- The tags gathered at one place per row. -/
theorem gather_tag {α : Type} (x : S16x2048.Idx → α) (idx : IVec S16x2 32) (b b' : Fin 16) (u : Fin 2048)
    (hi : (idx (ix2 b 0)).toNat = b'.val) (hj : (idx (ix2 b 1)).toNat = u.val) :
    Host.gather gather_S16x2048_S16x2_S16_n_01_n_n_01_1_11 x idx (ix1 b) = x (ix2 b' u) := by
  refine congrArg x (funext fun a => Fin.ext ?_)
  match a with
  | 0 =>
    refine Eq.trans (b := min (idx (ix2 b 0)).toInt.toNat 15) ?_ (clamp_word _ _ _ hi (Nat.le_of_lt_succ (Fin.isLt _)) (by omega))
    refine congrArg (fun z => min (idx z).toInt.toNat 15) ?_
    funext k
    match k with
    | 0 => rfl
    | 1 => rfl
  | 1 =>
    refine Eq.trans (b := min (idx (ix2 b 1)).toInt.toNat 2047) ?_ (clamp_word _ _ _ hj (Nat.le_of_lt_succ (Fin.isLt _)) (by omega))
    refine congrArg (fun z => min (idx z).toInt.toNat 2047) ?_
    funext k
    match k with
    | 0 => rfl
    | 1 => rfl

/-- A row of thirty-two scores gathered at one tag per row. -/
theorem gather_st {α : Type} (x : S32.Idx → α) (idx : IVec S16x1 32) (b : Fin 16) (n : Fin 32) (h : (idx (ix2 b 0)).toNat = n.val) :
    Host.gather gather_S32_S16x1_S16_n_0_n_n_0_1_1 x idx (ix1 b) = x (ix1 n) := by
  refine congrArg x (funext fun a => Fin.ext ?_)
  match a with
  | 0 =>
    refine Eq.trans (b := min (idx (ix2 b 0)).toInt.toNat 31) ?_ (clamp_word _ _ _ h (Nat.le_of_lt_succ (Fin.isLt _)) (by omega))
    refine congrArg (fun z => min (idx z).toInt.toNat 31) ?_
    funext k
    match k with
    | 0 => rfl
    | 1 => rfl
end Cert.ReferenceIdeal.Value
-- ==== Proof.RefStep.lean ====
module

public import proofs.«01_k».proof.Proof.RefRun
public import proofs.«01_k».proof.Proof.Spec
public import proofs.«01_k».proof.Proof.Words
public import proofs.«01_k».proof.Proof.RefGather
public import Idealize.ShloMosaic.Lib.Pipeline.ValueKit
public import Idealize.ShloMosaic.Lib.StableHlo.ReadAt
public import Idealize.ShloMosaic.Lib.DynamicIndex

@[expose] public section
/-!
  One trip of the reference's loop, read at its carried buffers: one step of the forward weights, in logarithms.
-/
set_option maxRecDepth 16384
noncomputable section
open Idealize.ShloMosaic Idealize.ShloMosaic.TcCoe Idealize.SL.Sem Idealize.ShloMosaic.StableHlo
namespace Cert.ReferenceIdeal.Value
open Cert.ReferenceIdeal Cert.ReferenceIdeal.Gen Cert.Crf
variable (m : (ℓ : Loc nD τ sig) → Buf (Elt Ideal) ℓ) (ρ : Dev nD → PrngReg)

/-- The carried potentials, at an element. -/
abbrev c0 (V0 : Valuation τ sig (Elt Ideal)) (u : Fin 2047) (b : Fin 16) (j : Fin 32) : EReal := V0 (Proc.devRef .tc main_v90_0) (ix3 u b j)
/-- The carried transitions, at an element. -/
abbrev c2 (V0 : Valuation τ sig (Elt Ideal)) (i j : Fin 32) : EReal := V0 (Proc.devRef .tc main_v90_2) (ix2 i j)
/-- The carried log-weights, at an element. -/
abbrev c4 (V0 : Valuation τ sig (Elt Ideal)) (b : Fin 16) (j : Fin 32) : EReal := V0 (Proc.devRef .tc main_v90_4) (ix2 b j)
/-- The scores before the sum, at an element. -/
abbrev r115 (V0 : Valuation τ sig (Elt Ideal)) (b : Fin 16) (i j : Fin 32) : EReal := res_main_while0b_v115 V0 (ix3 b i j)
/-- The largest score, at an element. -/
abbrev r117 (V0 : Valuation τ sig (Elt Ideal)) (b : Fin 16) (j : Fin 32) : EReal := res_main_while0b_v117 V0 (ix3 b 0 j)
/-- The amount taken out, at an element. -/
abbrev r122 (V0 : Valuation τ sig (Elt Ideal)) (b : Fin 16) (j : Fin 32) : EReal := res_main_while0b_v122 V0 (ix3 b 0 j)

/-- The scores of every start and end of a transition, before the transition. -/
theorem v115_at (V0 : Valuation τ sig (Elt Ideal)) (b : Fin 16) (i j : Fin 32) : r115 V0 b i j
    = c4 V0 b i + c2 V0 i j := by
  show (res_main_while0b_v115 V0 _ : EReal) = _
  unfold res_main_while0b_v115
  pointwise []

/-- The indices of the middle axis. -/
theorem drop_mid (b : Fin 16) (j : Fin 32) : (Finset.univ.filter fun i => reducesTo_S16x32x32_S16x32_d1.drop i = (ix2 b j : S16x32.Idx))
    = Finset.univ.map ⟨fun x : Fin 32 => (ix3 b x j : S16x32x32.Idx), fun x y h => congrFun h 1⟩ := by
  have hd : ∀ i : S16x32x32.Idx, reducesTo_S16x32x32_S16x32_d1.drop i = (ix2 (⟨(i 0).val, (i 0).isLt⟩ : Fin 16) (⟨(i 2).val, (i 2).isLt⟩ : Fin 32) : S16x32.Idx) := fun i => funext fun a => match a with
    | 0 => Fin.ext rfl
    | 1 => Fin.ext rfl
  ext i
  simp only [Finset.mem_filter, Finset.mem_univ, true_and, Finset.mem_map, Function.Embedding.coeFn_mk]
  rw [hd]
  constructor
  · intro h
    refine ⟨i 1, funext fun a => ?_⟩
    have h0 := congrFun h 0
    have h1 := congrFun h 1
    match a with
    | 0 => exact h0.symm
    | 1 => rfl
    | 2 => exact h1.symm
  · rintro ⟨x, rfl⟩
    rfl

/-- The largest of them. -/
theorem v117_at (V0 : Valuation τ sig (Elt Ideal)) (b : Fin 16) (j : Fin 32) : r117 V0 b j
    = Finset.univ.fold max (⊥ : EReal) (fun i : Fin 32 => c4 V0 b i + c2 V0 i j) := by
  show (res_main_while0b_v117 V0 _ : EReal) = _
  unfold res_main_while0b_v117
  pointwise []
  rw [ofBits_ninf]
  refine (congrArg (fun s => Finset.fold max (⊥ : EReal) (res_main_while0b_v115 V0) s) (drop_mid b j)).trans ?_
  rw [Finset.fold_map]
  refine congrArg (fun f => Finset.fold max (⊥ : EReal) f Finset.univ) (funext fun i => ?_)
  exact v115_at V0 b i j

/-- The amount taken out of the sum. -/
theorem v122_at (V0 : Valuation τ sig (Elt Ideal)) (b : Fin 16) (j : Fin 32) : r122 V0 b j
    = if max (r117 V0 b j) (-(r117 V0 b j)) < ⊤ then r117 V0 b j else 0 := by
  show (res_main_while0b_v122 V0 _ : EReal) = _
  unfold res_main_while0b_v122
  pointwise []
  rw [ofBits_inf]
  rfl

/-- One trip at its own contents. -/
theorem step_read (V0 : Valuation τ sig (Elt Ideal)) (k : ℕ) (hk : k < 2047) (hc : V0 (Proc.devRef .tc main_v90_3) = fun _ => BitVec.ofNat 32 k) (b : Fin 16) (j : Fin 32) :
    (step_main_v90_4 V0 (ix2 b j) : EReal) = Scalar.select (V0 (Proc.devRef .tc main_v90_1) (ix2 ⟨k, hk⟩ b))
      (Ideal.log (∑ i : Fin 32, Ideal.exp (r115 V0 b i j - r122 V0 b j)) + r122 V0 b j
        + c0 V0 ⟨k, hk⟩ b j) (c4 V0 b j) := by
  have hw : (BitVec.ofNat 32 k).toInt = (k : Int) := by
    rw [BitVec.toInt_eq_toNat_of_lt (by rw [BitVec.toNat_ofNat]; omega), BitVec.toNat_ofNat]
    omega
  unfold step_main_v90_4
  rw [hc]
  rw [Host.dynamicSlice_eq_extractStridedSlice S1x16 _ _ ![k, 0] sliceFits_S2047x16_S1x16 ⟨rfl, fun a => match a with | 0 => by show k + 1 ≤ 2047; omega | 1 => by show 0 + 16 ≤ 16; decide⟩
      (fun a => match a with | 0 => hw | 1 => rfl),
    Host.dynamicSlice_eq_extractStridedSlice S1x16x32 _ _ ![k, 0, 0] sliceFits_S2047x16x32_S1x16x32 ⟨rfl, fun a => match a with | 0 => by show k + 1 ≤ 2047; omega | 1 => by show 0 + 16 ≤ 16; decide | 2 => by show 0 + 32 ≤ 32; decide⟩
      (fun a => match a with | 0 => hw | 1 => rfl | 2 => rfl)]
  simp only [id_eq]
  pointwise []

/-- One trip is one step of the forward weights. -/
theorem step_at (D : Data) (h : D.Ok) (V0 : Valuation τ sig (Elt Ideal)) (k : ℕ) (hk : k < 2047) (hc : V0 (Proc.devRef .tc main_v90_3) = fun _ => BitVec.ofNat 32 k) (b : Fin 16) (j : Fin 32)
    (h0 : c0 V0 ⟨k, hk⟩ b j = D.row b (k + 1) j)
    (h1 : V0 (Proc.devRef .tc main_v90_1) (ix2 ⟨k, hk⟩ b) = BitVec.ofBool (decide (k + 1 < D.len b)))
    (h2 : ∀ i j, c2 V0 i j = D.tr i j)
    (h4 : ∀ j, c4 V0 b j = elog (D.fw b k j)) :
    (step_main_v90_4 V0 (ix2 b j) : EReal) = elog (D.fw b (k + 1) j) := by
  rw [step_read V0 k hk hc, h0, h1, h4, select_bool, Data.fw_succ]
  by_cases hl : k + 1 < D.len b
  · rw [if_pos (decide_eq_true hl), if_pos hl]
    have hv : ∀ i, elog (D.fw b k i) + D.tr i j < ⊤ := fun i => EReal.add_lt_top (ne_of_lt (elog_lt_top _)) (ne_of_lt (h.tr_lt _ _))
    have e := lse_safe (fun i => elog (D.fw b k i) + D.tr i j) hv (r122 V0 b j) (by
      rw [v122_at, v117_at]
      simp only [h2, h4])
    simp only [v115_at, h2, h4]
    rw [e, ← elog_mul_ex _ (h.row_lt _ _ _)]
    congr 2
    refine Finset.sum_congr rfl fun i _ => ?_
    rw [ex_add (elog_lt_top _) (h.tr_lt _ _), ex_elog (Data.fw_nonneg _ _ _)]
    rfl
  · rw [if_neg (by simpa using hl), if_neg hl]

end Cert.ReferenceIdeal.Value
-- ==== Proof.RefLoop.lean ====
module

public import proofs.«01_k».proof.Proof.RefRun
public import proofs.«01_k».proof.Proof.Spec
public import proofs.«01_k».proof.Proof.Words
public import proofs.«01_k».proof.Proof.RefStep
public import Idealize.ShloMosaic.Lib.Pipeline.ValueKit
public import Idealize.ShloMosaic.Lib.StableHlo.ReadAt
public import Idealize.ShloMosaic.Lib.DynamicIndex

@[expose] public section
/-!
  The reference's loop from its entry to its end, and the lines after it: the logarithm of the total weight of all paths.
-/
set_option maxRecDepth 16384
noncomputable section
open Idealize.ShloMosaic Idealize.ShloMosaic.TcCoe Idealize.SL.Sem Idealize.ShloMosaic.StableHlo
namespace Cert.ReferenceIdeal.Value
open Cert.ReferenceIdeal Cert.ReferenceIdeal.Gen Cert.Crf
variable (m : (ℓ : Loc nD τ sig) → Buf (Elt Ideal) ℓ) (ρ : Dev nD → PrngReg)

/-- The data of the problem, as the arguments give it. -/
def data (c : Dev nD) : Data where
  lp b u j := (m ((c.tc : Thread nD τ).loc main_arg0) : S16x2048x32.Idx → EReal) (ix3 b u j)
  tg b u := (m ((c.tc : Thread nD τ).loc main_arg1) : S16x2048.Idx → BitVec 32) (ix2 b u)
  ln b := (m ((c.tc : Thread nD τ).loc main_arg2) : S16.Idx → BitVec 32) (ix1 b)
  tr i j := (m ((c.tc : Thread nD τ).loc main_arg3) : S32x32.Idx → EReal) (ix2 i j)
  st j := (m ((c.tc : Thread nD τ).loc main_arg4) : S32.Idx → EReal) (ix1 j)
  en j := (m ((c.tc : Thread nD τ).loc main_arg5) : S32.Idx → EReal) (ix1 j)

/-- A row of emissions. -/
theorem row_at (c : Dev nD) (b : Fin 16) (u : ℕ) (hu : u < 2048) (j : Fin 32) : (data m c).row b u j = (data m c).lp b ⟨u, hu⟩ j := by
  show (data m c).lp b ⟨u % 2048, _⟩ j = _
  exact congrArg (fun z => (data m c).lp b z j) (Fin.ext (Nat.mod_eq_of_lt hu))

/-- At the loop's entry: the potentials from time one on. -/
theorem e0 (c : Dev nD) (u : Fin 2047) (b : Fin 16) (j : Fin 32) : c0 (entryContents preI m c) u b j = (data m c).row b (u.val + 1) j := by
  rw [row_at m c b (u.val + 1) (by omega)]
  show ((entryContents preI m c (Proc.devRef .tc main_v90_0)) (ix3 u b j) : EReal) = _
  unfold entryContents preI
  simp only [afterL_cons, afterL_nil]
  after_reads_at
  simp only [id_eq]
  pointwise []
  exact congrArg (fun z => (data m c).lp b z j) (Fin.ext (Nat.add_comm 1 u.val))

/-- At the loop's entry: which times lie within the length. -/
theorem e1 (c : Dev nD) (h : (data m c).Ok) (u : Fin 2047) (b : Fin 16) :
    (entryContents preI m c (Proc.devRef .tc main_v90_1)) (ix2 u b) = BitVec.ofBool (decide (u.val + 1 < (data m c).len b)) := by
  have hl := h.ln_le b
  unfold entryContents preI
  simp only [afterL_cons, afterL_nil]
  after_reads_at
  simp only [id_eq]
  pointwise []
  refine Eq.trans (b := IntOp.cmpi .slt (BitVec.ofNat 32 (1 + u.val)) ((data m c).ln b)) (congrArg (fun z => IntOp.cmpi .slt z ((data m c).ln b)) (addi_ofNat 1 u.val)) ?_
  rw [slt_word _ _ (by omega) (by omega), Nat.add_comm]
  rfl

/-- At the loop's entry: the transitions. -/
theorem e2 (c : Dev nD) (i j : Fin 32) : c2 (entryContents preI m c) i j = (data m c).tr i j := by
  show ((entryContents preI m c (Proc.devRef .tc main_v90_2)) (ix2 i j) : EReal) = _
  unfold entryContents preI
  simp only [afterL_cons, afterL_nil]
  after_reads_at
  rfl

/-- At the loop's entry: the log-weights of time zero. -/
theorem e4 (c : Dev nD) (h : (data m c).Ok) (b : Fin 16) (j : Fin 32) : c4 (entryContents preI m c) b j = elog ((data m c).fw b 0 j) := by
  rw [Data.fw_zero, elog_mul_ex _ (h.row_lt _ _ _), elog_ex (h.st_lt _), row_at m c b 0 (by omega)]
  show ((entryContents preI m c (Proc.devRef .tc main_v90_4)) (ix2 b j) : EReal) = _
  unfold entryContents preI
  simp only [afterL_cons, afterL_nil]
  after_reads_at
  simp only [id_eq]
  pointwise []
  rfl

/-- The loop keeps the potentials it carries. -/
theorem k0 (c : Dev nD) : ∀ k, atK m k c (Proc.devRef .tc main_v90_0) = entryContents preI m c (Proc.devRef .tc main_v90_0)
  | 0 => rfl
  | k + 1 => (trip_agree (atK m k c) main_v90_0 (by decide)).trans ((STEP_main_v90_0 _).trans (k0 c k))
/-- The loop keeps the marks it carries. -/
theorem k1 (c : Dev nD) : ∀ k, atK m k c (Proc.devRef .tc main_v90_1) = entryContents preI m c (Proc.devRef .tc main_v90_1)
  | 0 => rfl
  | k + 1 => (trip_agree (atK m k c) main_v90_1 (by decide)).trans ((STEP_main_v90_1 _).trans (k1 c k))
/-- The loop keeps the transitions it carries. -/
theorem k2 (c : Dev nD) : ∀ k, atK m k c (Proc.devRef .tc main_v90_2) = entryContents preI m c (Proc.devRef .tc main_v90_2)
  | 0 => rfl
  | k + 1 => (trip_agree (atK m k c) main_v90_2 (by decide)).trans ((STEP_main_v90_2 _).trans (k2 c k))

/-- After `k` trips the loop carries the logarithms of the forward weights at time `k`. -/
theorem k4 (c : Dev nD) (h : (data m c).Ok) (b : Fin 16) : ∀ k, k ≤ 2047 → ∀ j, c4 (atK m k c) b j = elog ((data m c).fw b k j)
  | 0, _, j => e4 m c h b j
  | k + 1, hk, j => by
    have e : atK m (k + 1) c (Proc.devRef .tc main_v90_4) = step_main_v90_4 (atK m k c) :=
      (trip_agree (atK m k c) main_v90_4 (by decide)).trans (STEP_main_v90_4 _)
    show (atK m (k + 1) c (Proc.devRef .tc main_v90_4) (ix2 b j) : EReal) = _
    rw [e]
    refine step_at (data m c) h (atK m k c) k (by omega) ?_ b j ?_ ?_ ?_ (k4 c h b k (by omega))
    · rw [atK_ctr]; exact funext fun _ => iv_count k
    · exact (congrFun (k0 m c k) _).trans (e0 m c ⟨k, by omega⟩ b j)
    · exact (congrFun (k1 m c k) _).trans (e1 m c h ⟨k, by omega⟩ b)
    · exact fun i j => (congrFun (k2 m c k) _).trans (e2 m c i j)

/-- The lines after the loop: the score less the logarithm of the weights' sum, at the buffers the loop ends with. -/
theorem post_at (D : Data) (h : D.Ok) (X : Valuation τ sig (Elt Ideal)) (b : Fin 16) (s : EReal) (hs : (X (Proc.devRef .tc main_v74) (ix1 b) : EReal) = s)
    (h4 : ∀ j, c4 X b j = elog (D.fw b 2047 j)) (h5 : ∀ j, (X (Proc.devRef .tc main_arg5) (ix1 j) : EReal) = D.en j) :
    (afterL postI X (Proc.devRef .tc main_v108) (ix1 b) : EReal) = s - D.logZ b := by
  have hv : ∀ i, elog (D.fw b 2047 i) + D.en i < ⊤ := fun i => EReal.add_lt_top (ne_of_lt (elog_lt_top _)) (ne_of_lt (h.en_lt _))
  have e := lse_safe (fun i => elog (D.fw b 2047 i) + D.en i) hv _ rfl
  have e' : ∑ i, ex (elog (D.fw b 2047 i) + D.en i) = ∑ i, D.fw b 2047 i * ex (D.en i) :=
    Finset.sum_congr rfl fun i _ => by rw [ex_add (elog_lt_top _) (h.en_lt _), ex_elog (Data.fw_nonneg _ _ _)]
  rw [e'] at e
  unfold postI
  simp only [afterL_cons, afterL_nil]
  after_reads_at
  have hf : (fun x : Fin 32 => c4 X b x + (X (Proc.devRef .tc main_arg5) (ix1 x) : EReal)) = fun x => elog (D.fw b 2047 x) + D.en x :=
    funext fun x => by rw [h4]; exact congrArg _ (h5 x)
  refine congrArg₂ (fun x y : EReal => x - y) hs (Eq.trans ?_ e)
  rw [ofBits_ninf, ofBits_inf]
  have hg : ∀ f : Fin 32 → EReal, f = (fun x => elog (D.fw b 2047 x) + D.en x) →
      Ideal.log (∑ x, Ideal.exp (f x - if max (Finset.univ.fold max (⊥ : EReal) f) (-(Finset.univ.fold max (⊥ : EReal) f)) < ⊤ then Finset.univ.fold max (⊥ : EReal) f else 0))
        + (if max (Finset.univ.fold max (⊥ : EReal) f) (-(Finset.univ.fold max (⊥ : EReal) f)) < ⊤ then Finset.univ.fold max (⊥ : EReal) f else 0)
      = Ideal.log (∑ i, Ideal.exp ((fun x => elog (D.fw b 2047 x) + D.en x) i - if max (Finset.univ.fold max (⊥ : EReal) (fun x => elog (D.fw b 2047 x) + D.en x)) (-(Finset.univ.fold max (⊥ : EReal) (fun x => elog (D.fw b 2047 x) + D.en x))) < ⊤ then Finset.univ.fold max (⊥ : EReal) (fun x => elog (D.fw b 2047 x) + D.en x) else 0))
        + (if max (Finset.univ.fold max (⊥ : EReal) (fun x => elog (D.fw b 2047 x) + D.en x)) (-(Finset.univ.fold max (⊥ : EReal) (fun x => elog (D.fw b 2047 x) + D.en x))) < ⊤ then Finset.univ.fold max (⊥ : EReal) (fun x => elog (D.fw b 2047 x) + D.en x) else 0) := fun f hf => by rw [hf]
  exact hg _ hf

end Cert.ReferenceIdeal.Value
-- ==== Proof.RefScore.lean ====
module

public import proofs.«01_k».proof.Proof.RefRun
public import proofs.«01_k».proof.Proof.Spec
public import proofs.«01_k».proof.Proof.Words
public import proofs.«01_k».proof.Proof.RefLoop
public import proofs.«01_k».proof.Proof.RefGather
public import Idealize.ShloMosaic.Lib.Pipeline.ValueKit
public import Idealize.ShloMosaic.Lib.StableHlo.ReadAt
public import Idealize.ShloMosaic.Lib.DynamicIndex

@[expose] public section
/-!
  What the reference computes before its loop: the score of the given path.
-/
set_option maxRecDepth 16384
noncomputable section
open Idealize.ShloMosaic Idealize.ShloMosaic.TcCoe Idealize.SL.Sem Idealize.ShloMosaic.StableHlo
namespace Cert.ReferenceIdeal.Value
open Cert.ReferenceIdeal Cert.ReferenceIdeal.Gen Cert.Crf
variable (m : (ℓ : Loc nD τ sig) → Buf (Elt Ideal) ℓ) (ρ : Dev nD → PrngReg)

/-- A word that is not negative is not wrapped. -/
theorem wrap_nonneg (w n : BitVec 32) (h : w.toNat < 2147483648) : Scalar.select (IntOp.cmpi CmpIPredicate.slt w 0#32) (IntOp.addi w n) w = w := by
  show Scalar.select (BitVec.ofBool (w.slt 0#32)) _ _ = w
  rw [select_bool, if_neg]
  rw [BitVec.slt_eq_decide, BitVec.toInt_eq_toNat_of_lt (by omega)]
  simp

/-- A mark read as a number. -/
theorem umark (b : Bool) : (FloatOps.uitofp FTy.f32 (BitVec.ofBool b) : Ideal .f32) = if b = true then (1 : EReal) else 0 := by
  cases b <;> simp [FloatOps.uitofp]

/-- The given tag at a time in range. -/
theorem tag_at (c : Dev nD) (h : (data m c).Ok) (b : Fin 16) (u : ℕ) (hu : u < 2048) : ((data m c).tg b ⟨u, hu⟩).toNat = ((data m c).tag b u).val := by
  have e1 : (⟨u % 2048, Nat.mod_lt _ (by decide)⟩ : Fin 2048) = ⟨u, hu⟩ := Fin.ext (Nat.mod_eq_of_lt hu)
  show _ = ((data m c).tg b ⟨u % 2048, _⟩).toNat % 32
  rw [e1]
  exact (Nat.mod_eq_of_lt (h.tg_lt _ _)).symm

/-- The wrapped tag, as a number. -/
theorem wtag (c : Dev nD) (h : (data m c).Ok) (b : Fin 16) (u : Fin 2048) (n : BitVec 32) (w : BitVec 32) (hw : w = (data m c).tg b u) :
    (Scalar.select (IntOp.cmpi CmpIPredicate.slt w 0#32) (IntOp.addi w n) w).toNat = ((data m c).tag b u.val).val := by
  subst hw
  rw [wrap_nonneg _ _ (lt_trans (h.tg_lt _ _) (by decide)), tag_at m c h b u.val u.isLt]

/-- The given tag lies in range. -/
theorem tag_in_range (w n : BitVec 32) (h : w.toNat < 32) :
    IntOp.andi (IntOp.cmpi CmpIPredicate.sge (Scalar.select (IntOp.cmpi CmpIPredicate.slt w 0#32) (IntOp.addi w n) w) 0#32)
      (IntOp.cmpi CmpIPredicate.sle (Scalar.select (IntOp.cmpi CmpIPredicate.slt w 0#32) (IntOp.addi w n) w) 31#32) = 1#1 := by
  rw [wrap_nonneg _ _ (lt_trans h (by decide))]
  show BitVec.ofBool ((0#32).sle w) &&& BitVec.ofBool (w.sle 31#32) = 1#1
  have e : w.toInt = (w.toNat : Int) := BitVec.toInt_eq_toNat_of_lt (by omega)
  have e1 : (0#32).sle w = true := by
    rw [BitVec.sle_eq_decide, e]
    simp
  have e2 : w.sle 31#32 = true := by
    rw [BitVec.sle_eq_decide, e]
    have : (31#32).toInt = 31 := by decide
    rw [this]
    simp only [decide_eq_true_eq]
    omega
  rw [e1, e2]
  decide

/-- A conjunction of marks that all hold. -/
theorem fold_and {ι : Type} (s : Finset ι) (f : ι → BitVec 1) (h : ∀ i, f i = 1#1) : Finset.fold IntOp.andi 1#1 f s = 1#1 := by
  classical
  induction s using Finset.induction_on with
  | empty => rfl
  | insert a s ha ih => rw [Finset.fold_insert ha, ih, h]; decide

/-- Where the mark holds, the first of the two. -/
theorem select_one {α : Type} (w : BitVec 1) (x y : α) (h : w = 1#1) : Scalar.select w x y = x := by
  subst h
  rfl

/-- The place of the last tag: the row. -/
theorem w54 (c : Dev nD) (b : Fin 16) : (upto hostOps0_2 (after hostOps0_1 (after hostOps0 (launchContents m c))) 66 (Proc.tc.devRef main_v54) (ix2 b 0)).toNat = b.val := by
  after_reads_at
  rw [wrap_nonneg _ _ (by rw [BitVec.toNat_ofNat]; omega), BitVec.toNat_ofNat]
  omega

/-- The place of the last tag: the time. -/
theorem w55 (c : Dev nD) (h : (data m c).Ok) (b : Fin 16) :
    (upto hostOps0_2 (after hostOps0_1 (after hostOps0 (launchContents m c))) 66 (Proc.tc.devRef main_v55) (ix2 b 0)).toNat = (data m c).len b - 1 := by
  have h1 := h.ln_pos b
  have h2 := h.ln_le b
  have e : (IntOp.subi ((data m c).ln b) 1#32).toNat = (data m c).len b - 1 := by
    show ((data m c).ln b - 1#32).toNat = ((data m c).ln b).toNat - 1
    rw [BitVec.toNat_sub]
    simp only [BitVec.toNat_ofNat]
    omega
  after_reads_at
  refine (congrArg BitVec.toNat (wrap_nonneg (IntOp.subi ((data m c).ln b) 1#32) 2048#32 ?_)).trans e
  rw [e]
  show ((data m c).ln b).toNat - 1 < _
  omega

/-- The row of a transition. -/
theorem w24 (c : Dev nD) (h : (data m c).Ok) (b : Fin 16) (u : Fin 2047) :
    (upto hostOps0_2 (after hostOps0_1 (after hostOps0 (launchContents m c))) 29 (Proc.tc.devRef main_v24) (ix3 b u 0)).toNat = ((data m c).tag b u.val).val := by
  after_reads_at
  exact wtag m c h b ⟨u.val, by omega⟩ _ _ rfl

/-- The column of a transition. -/
theorem w25 (c : Dev nD) (h : (data m c).Ok) (b : Fin 16) (u : Fin 2047) :
    (upto hostOps0_2 (after hostOps0_1 (after hostOps0 (launchContents m c))) 29 (Proc.tc.devRef main_v25) (ix3 b u 0)).toNat = ((data m c).tag b (u.val + 1)).val := by
  after_reads_at
  rw [Nat.add_comm u.val 1]
  exact wtag m c h b ⟨1 + u.val, by omega⟩ _ _ rfl

/-- Before the loop: the score of the given path. -/
theorem score_at (c : Dev nD) (h : (data m c).Ok) (b : Fin 16) : ((entryContents preI m c (Proc.devRef .tc main_v74)) (ix1 b) : EReal) = (data m c).score b := by
  have hp := h.ln_pos b
  have hl := h.ln_le b
  have w54' := w54 m c
  have w55' := w55 m c h
  have w24' := w24 m c h
  have w25' := w25 m c h
  unfold entryContents preI
  simp only [afterL_cons, afterL_nil]
  after_reads_at
  generalize upto hostOps0_2 (after hostOps0_1 (after hostOps0 (launchContents m c))) 66 (Proc.tc.devRef main_v54) = W54 at *
  generalize upto hostOps0_2 (after hostOps0_1 (after hostOps0 (launchContents m c))) 66 (Proc.tc.devRef main_v55) = W55 at *
  generalize upto hostOps0_2 (after hostOps0_1 (after hostOps0 (launchContents m c))) 29 (Proc.tc.devRef main_v24) = W24 at *
  generalize upto hostOps0_2 (after hostOps0_1 (after hostOps0 (launchContents m c))) 29 (Proc.tc.devRef main_v25) = W25 at *
  refine congrArg₂ (fun x y : EReal => x + y) (congrArg₂ (fun x y : EReal => x + y) (congrArg₂ (fun x y : EReal => x + y) ?_ ?_) ?_) ?_
  · refine (gather_st _ _ b ((data m c).tag b 0) ?_)
    pointwise []
    exact wtag m c h b 0 _ _ rfl
  · rw [Finset.sum_range]
    refine Finset.sum_congr rfl fun u _ => ?_
    rw [gather_em _ _ b u ((data m c).tag b u.val) (wtag m c h b u _ _ rfl)]
    unfold Data.emAt
    rw [row_at m c b u.val u.isLt]
    refine (congrArg (fun z : EReal => z * _) (select_one _ _ _ (fold_and _ _ fun _ => tag_in_range _ 32#32 (h.tg_lt b u)))).trans ?_
    refine Eq.trans (b := (data m c).lp b u ((data m c).tag b u.val) * (if decide (u.val < (data m c).len b) = true then (1 : EReal) else 0)) ?_ ?_
    · refine congrArg (fun z : EReal => (data m c).lp b u ((data m c).tag b u.val) * z) (Eq.trans ?_ (umark _))
      exact congrArg (FloatOps.uitofp FTy.f32) (slt_word _ ((data m c).ln b) (by omega) (by omega))
    · simp only [decide_eq_true_eq]
      split
      · rw [mul_one]
      · rw [mul_zero]
  · rw [Finset.sum_range]
    refine Finset.sum_congr rfl fun u _ => ?_
    rw [gather_tr _ _ b u ((data m c).tag b u.val) ((data m c).tag b (u.val + 1)) (by pointwise []; exact w24' b u) (by pointwise []; exact w25' b u)]
    unfold Data.trAt
    refine Eq.trans (b := (data m c).tr ((data m c).tag b u.val) ((data m c).tag b (u.val + 1)) * (if decide (1 + u.val < (data m c).len b) = true then (1 : EReal) else 0)) ?_ ?_
    · refine congrArg (fun z : EReal => (data m c).tr ((data m c).tag b u.val) ((data m c).tag b (u.val + 1)) * z) (Eq.trans ?_ (umark _))
      refine congrArg (FloatOps.uitofp FTy.f32) (Eq.trans (b := IntOp.cmpi .slt (BitVec.ofNat 32 (1 + u.val)) ((data m c).ln b)) (congrArg (fun z => IntOp.cmpi .slt z ((data m c).ln b)) (addi_ofNat 1 u.val)) ?_)
      exact slt_word _ ((data m c).ln b) (by omega) (by omega)
    · simp only [decide_eq_true_eq, Nat.add_comm 1 u.val]
      split
      · rw [mul_one]
      · rw [mul_zero]
  · refine (gather_st _ _ b ((data m c).tag b ((data m c).len b - 1)) ?_)
    pointwise []
    rw [gather_tag _ _ b b ⟨(data m c).len b - 1, lt_of_lt_of_le (Nat.sub_lt hp (by decide)) hl⟩ (by pointwise []; exact w54' b) (by pointwise []; exact w55' b)]
    exact wtag m c h b ⟨(data m c).len b - 1, _⟩ _ _ rfl

end Cert.ReferenceIdeal.Value
-- ==== Proof.RefVal.lean ====
module

public import proofs.«01_k».proof.Proof.RefRun
public import proofs.«01_k».proof.Proof.Spec
public import proofs.«01_k».proof.Proof.Words
public import proofs.«01_k».proof.Proof.RefScore
public import Idealize.ShloMosaic.Lib.Pipeline.ValueKit
public import Idealize.ShloMosaic.Lib.StableHlo.ReadAt
public import Idealize.ShloMosaic.Lib.DynamicIndex

@[expose] public section
/-!
  The run of the reference, with its result at the problem's value.
-/
set_option maxRecDepth 16384
noncomputable section
open Idealize.ShloMosaic Idealize.ShloMosaic.TcCoe Idealize.SL.Sem Idealize.ShloMosaic.StableHlo
namespace Cert.ReferenceIdeal.Value
open Cert.ReferenceIdeal Cert.ReferenceIdeal.Gen Cert.Crf
variable (m : (ℓ : Loc nD τ sig) → Buf (Elt Ideal) ℓ) (ρ : Dev nD → PrngReg)

/-- What the reference's result holds at the end. -/
theorem final_at (c : Dev nD) (h : (data m c).Ok) : (finalContents condOps preI bodyI postI 2047 m c (Proc.devRef .tc main_v108) : S16.Idx → EReal)
    = fun i => (data m c).result ⟨(i 0).val, (i 0).isLt⟩ := by
  funext i
  obtain ⟨b, rfl⟩ : ∃ b : Fin 16, i = ix1 b := ⟨i 0, eq_ix1 i⟩
  refine post_at (data m c) h (after condOps (atK m 2047 c)) b ((data m c).score b) ?_ (fun j => ?_) fun j => ?_
  · rw [after_of_writes_sub _ _ condOps_writes (by decide), loop_keeps m c (by decide)]
    exact score_at m c h b
  · refine (congrFun (cond_keeps (atK m 2047 c) main_v90_4 (by decide)) _).trans (k4 m c h b 2047 (le_refl _) j)
  · rw [after_of_writes_sub _ _ condOps_writes (by decide), loop_keeps m c (by decide), pre_keeps m c (by decide)]
    rfl

/-- The reference's run: it terminates with the result at the problem's value and the arguments unchanged. -/
theorem run_value (h : ∀ c, (data m c).Ok) : θ_run (defs (F := Ideal)) (onTc (τ := τ) (main (F := Ideal))) ⟨m, fun _ => 0, ρ⟩ (fun r => ∀ c : Dev nD,
      (r.2.mem ((c.tc : Thread nD τ).loc main_v108) : S16.Idx → EReal) = (fun i => (data m c).result ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r hr c =>
    ⟨(hr c main_v108 rfl).trans (final_at m c (h c)),
      (hr c main_arg0 rfl).trans (final_keeps m c (by decide) (by decide) (by decide)),
      (hr c main_arg1 rfl).trans (final_keeps m c (by decide) (by decide) (by decide)),
      (hr c main_arg2 rfl).trans (final_keeps m c (by decide) (by decide) (by decide)),
      (hr c main_arg3 rfl).trans (final_keeps m c (by decide) (by decide) (by decide)),
      (hr c main_arg4 rfl).trans (final_keeps m c (by decide) (by decide) (by decide)),
      (hr c main_arg5 rfl).trans (final_keeps m c (by decide) (by decide) (by decide))⟩) (run_fold m ρ)

end Cert.ReferenceIdeal.Value
-- ==== Proof.Pre.lean ====
module

public import proofs.«01_k».proof.Pre_potentials_below_inf
public import proofs.«01_k».proof.Proof.Spec
public import Idealize.ShloMosaic.Lib.Pipeline.ValueKit
public import Idealize.ShloMosaic.Lib.ReduceAll

@[expose] public section

/-!
  The precondition: the facts its operations take, and what it says of the six arguments.
-/
set_option maxRecDepth 16384
noncomputable section
open Idealize.ShloMosaic

namespace Cert.Pre_potentials_below_inf
open Cert.Crf

/-- The side conditions of the precondition's operations. -/
theorem facts : Facts where
  bcast_S_S16x2048 := by decide
  reducesTo_S16x2048_S_d0_1 := by decide
  h_S_ := by decide
  bcast_S_S16 := by decide
  reducesTo_S16_S_d0 := by decide
  bcast_S_S16x2048x32 := by decide
  reducesTo_S16x2048x32_S_d0_1_2 := by decide
  bcast_S_S32x32 := by decide
  reducesTo_S32x32_S_d0_1 := by decide
  bcast_S_S32 := by decide
  reducesTo_S32_S_d0 := by decide

/-- A conjunction of two bits that holds has both. -/
theorem both {a b : BitVec 1} (h : IntOp.andi a b = 1#1) : a = 1#1 ∧ b = 1#1 := by
  revert h
  revert a b
  decide

/-- A comparison with `⊤` that holds. -/
theorem lt_top_of {x : EReal} (h : FloatOps.cmpf (F := Ideal) (φ := .f32) .olt x (FloatOps.ofBits .f32 0x7F800000#32 : Ideal .f32) = 1#1) : x < ⊤ := by
  have e : (FloatOps.ofBits .f32 0x7F800000#32 : Ideal .f32) = (⊤ : EReal) := ofBits_inf
  rw [e] at h
  by_contra hx
  have : (FloatOps.cmpf (F := Ideal) (φ := .f32) .olt x (⊤ : EReal)) = 0#1 := by
    show BitVec.ofBool (decide (x < ⊤)) = 0#1
    rw [decide_eq_false hx]; rfl
  rw [this] at h
  exact absurd h (by decide)

/-- A word between two bounds, read signed. -/
theorem word_range (w : BitVec 32) (lo hi : ℕ) (hlo : lo < 2147483648) (hhi : hi < 2147483648)
    (h1 : (BitVec.ofNat 32 lo).sle w = true) (h2 : w.sle (BitVec.ofNat 32 hi) = true) : lo ≤ w.toNat ∧ w.toNat ≤ hi := by
  rw [BitVec.sle_eq_decide, decide_eq_true_eq] at h1 h2
  have e1 : (BitVec.ofNat 32 lo).toInt = lo := by
    rw [BitVec.toInt_eq_toNat_of_lt (by rw [BitVec.toNat_ofNat]; omega), BitVec.toNat_ofNat]; omega
  have e2 : (BitVec.ofNat 32 hi).toInt = hi := by
    rw [BitVec.toInt_eq_toNat_of_lt (by rw [BitVec.toNat_ofNat]; omega), BitVec.toNat_ofNat]; omega
  rw [e1] at h1
  rw [e2] at h2
  rw [BitVec.toInt_eq_toNat_cond] at h1 h2
  split at h1 <;> omega

variable [Facts]

instance : Subsingleton S_.Idx := ⟨fun a b => funext fun k => k.elim0⟩

/-- What the precondition says, element by element. -/
theorem decode (x0 : FVec Ideal S16x2048x32 .f32) (x1 : IVec S16x2048 32) (x2 : IVec S16 32) (x3 : FVec Ideal S32x32 .f32) (x4 x5 : FVec Ideal S32 .f32)
    (h : fn (F := Ideal) x0 x1 x2 x3 x4 x5 = fun _ => 1#1) :
    (∀ i, (x1 i).toNat < 32) ∧ (∀ i, 1 ≤ (x2 i).toNat ∧ (x2 i).toNat ≤ 2048) ∧ (∀ i, (x0 i : EReal) < ⊤) ∧ (∀ i, (x3 i : EReal) < ⊤)
      ∧ (∀ i, (x4 i : EReal) < ⊤) ∧ (∀ i, (x5 i : EReal) < ⊤) := by
  have e := congrFun h (Shape.Idx.first Facts.h_S_)
  unfold fn fn_part1 at e
  dsimp only at e
  obtain ⟨e, a7⟩ := both e
  obtain ⟨e, a6⟩ := both e
  obtain ⟨e, a5⟩ := both e
  obtain ⟨e, a4⟩ := both e
  obtain ⟨e, a3⟩ := both e
  obtain ⟨e, a2⟩ := both e
  obtain ⟨a0, a1⟩ := both e
  have b := fun {s : Shape} {axes : List (Fin s.rank)} (x : s.Idx → BitVec 1) (hr : s.ReducesTo axes S_)
    (q : Host.reduce IntOp.andi x (constantI S_ 1 1#1) hr Facts.h_S_ (Shape.Idx.first Facts.h_S_) = 1#1) (i : s.Idx) =>
      Host.reduce_andi_all x (constantI S_ 1 1#1) hr Facts.h_S_ _ q i
  have bit : ∀ {p : Bool}, BitVec.ofBool p = 1#1 → p = true := by decide
  refine ⟨fun i => ?_, fun i => ?_, fun i => lt_top_of (b _ _ a4 i), fun i => lt_top_of (b _ _ a5 i), fun i => lt_top_of (b _ _ a6 i), fun i => lt_top_of (b _ _ a7 i)⟩
  · have c0 : (BitVec.ofNat 32 0).sle (x1 i) = true := bit (b _ _ a0 i)
    have c1 : (x1 i).slt (BitVec.ofNat 32 32) = true := bit (b _ _ a1 i)
    have c2 : (x1 i).sle (BitVec.ofNat 32 31) = true := by
      rw [BitVec.slt_eq_decide, decide_eq_true_eq] at c1
      rw [BitVec.sle_eq_decide, decide_eq_true_eq]
      have e1 : (BitVec.ofNat 32 32).toInt = 32 := by decide
      have e2 : (BitVec.ofNat 32 31).toInt = 31 := by decide
      omega
    have := word_range (x1 i) 0 31 (by decide) (by decide) c0 c2
    omega
  · exact word_range (x2 i) 1 2048 (by decide) (by decide) (bit (b _ _ a2 i)) (bit (b _ _ a3 i))

end Cert.Pre_potentials_below_inf
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefRun
public import proofs.«01_k».proof.Proof.BodyKernel
public import proofs.«01_k».proof.Proof.BodyKernelIdeal
public import proofs.«01_k».proof.Proof.KerHost
public import proofs.«01_k».proof.Proof.RefVal
public import proofs.«01_k».proof.Proof.Pre

@[expose] public section

/-!
  The proof of `Cert.Claim`: the frames of the kernel (at the floats' bits and over the extended reals) and of the
  reference, that the idealization preserves the kernel, and that over the extended reals the kernel and the reference
  end with equal results wherever the precondition holds.
-/
noncomputable section

namespace Cert.Proof

open Idealize.ShloMosaic Idealize.ShloMosaic.TcCoe Idealize.SL.Sem

/-- The two programs read the same problem when their arguments agree. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.data m' c = Cert.KernelIdeal.Value.data m c := by
  unfold Cert.ReferenceIdeal.Value.data Cert.KernelIdeal.Value.data
  rw [h0, h1, h2, h3, h4, h5]

/-- What the precondition says of the problem the kernel reads. -/
theorem ok (m : (ℓ : Loc Cert.KernelIdeal.nD Cert.KernelIdeal.τ Cert.KernelIdeal.sig) → Buf (Elt Ideal) ℓ)
    (h : Cert.Pre_KernelIdeal_potentials_below_inf (hPre_potentials_below_inf := Cert.Pre_potentials_below_inf.facts) m) (c : Dev Cert.KernelIdeal.nD) : (Cert.KernelIdeal.Value.data m c).Ok := by
  haveI := Cert.Pre_potentials_below_inf.facts
  obtain ⟨q1, q2, q0, q3, q4, q5⟩ := Cert.Pre_potentials_below_inf.decode _ _ _ _ _ _ (h c)
  exact ⟨fun b t => q1 _, fun b => (q2 _).1, fun b => (q2 _).2, fun b t j => q0 _, fun i j => q3 _, fun j => q4 _, fun j => q5 _⟩

/-- Over the extended reals the kernel and the reference end with equal results. -/
theorem equal : Cert.algebraic_KernelIdeal_ReferenceIdeal_pre_potentials_below_inf (hKernelIdeal := Cert.KernelIdeal.Gen.facts)
    (hReferenceIdeal := Cert.ReferenceIdeal.Gen.facts) (hPre_potentials_below_inf := Cert.Pre_potentials_below_inf.facts) := by
  intro m g m' g' hpre hm
  have hok := ok m hpre
  have hd : ∀ c, Cert.ReferenceIdeal.Value.data m' c = Cert.KernelIdeal.Value.data m c := fun c =>
    data_eq m m' c (hm c).1 (hm c).2.1 (hm c).2.2.1 (hm c).2.2.2.1 (hm c).2.2.2.2.1 (hm c).2.2.2.2.2
  refine ⟨fun c => (fun i => (Cert.KernelIdeal.Value.data m c).result ⟨(i 0).val, (i 0).isLt⟩ : Cert.KernelIdeal.S16.Idx → EReal),
    Cert.KernelIdeal.Value.run_value m g hok, ?_⟩
  refine (θ_run _ _ _).mono (fun r hr c => ⟨(hr c).1.trans ?_, (hr c).2⟩) (Cert.ReferenceIdeal.Value.run_value m' g' fun c => (hd c).symm ▸ hok c)
  rw [hd c]
  rfl

/-- Everything the certificate claims. -/
theorem claim : Cert.Claim := ⟨Cert.Kernel.Gen.facts, Cert.KernelIdeal.Gen.facts, Cert.ReferenceIdeal.Gen.facts, Cert.Pre_potentials_below_inf.facts,
  fun m g _ => Cert.Kernel.Body.frame m g,
  fun m g _ => Cert.KernelIdeal.Body.frame m g,
  fun m g _ => Cert.KernelIdeal.Body.frame m g,
  fun m g _ => Cert.ReferenceIdeal.Value.run_frame m g,
  fun m g _ => Cert.ReferenceIdeal.Value.run_frame m g,
  trivial,
  equal⟩

end Cert.Proof

end
